-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantised [hPre_quantised : Cert.Pre_quantised.Facts] (m : (ℓ : Loc Cert.KernelIdeal.nD Cert.KernelIdeal.τ Cert.KernelIdeal.sig) → Buf (Elt Ideal) ℓ) : Prop :=
  ∀ c : Dev Cert.KernelIdeal.nD,
    (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantised [hPre_quantised : Cert.Pre_quantised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_quantised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_quantised [hKernelIdeal : Cert.KernelIdeal.Facts] [hPre_quantised : Cert.Pre_quantised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_quantised [hReferenceIdeal : Cert.ReferenceIdeal.Facts] [hPre_quantised : Cert.Pre_quantised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_quantised [hKernelIdeal : Cert.KernelIdeal.Facts] [hReferenceIdeal : Cert.ReferenceIdeal.Facts] [hPre_quantised : Cert.Pre_quantised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_quantised : Cert.Pre_quantised.Facts),
    quiescent_Kernel (hKernel := hKernel)
    ∧ quiescent_KernelIdeal (hKernelIdeal := hKernelIdeal)
    ∧ quiescent_KernelIdeal_pre_quantised (hKernelIdeal := hKernelIdeal) (hPre_quantised := hPre_quantised)
    ∧ quiescent_ReferenceIdeal (hReferenceIdeal := hReferenceIdeal)
    ∧ quiescent_ReferenceIdeal_pre_quantised (hReferenceIdeal := hReferenceIdeal) (hPre_quantised := hPre_quantised)
    ∧ preserves_Kernel_KernelIdeal
    ∧ algebraic_KernelIdeal_ReferenceIdeal_pre_quantised (hKernelIdeal := hKernelIdeal) (hReferenceIdeal := hReferenceIdeal) (hPre_quantised := hPre_quantised)
-- ==== Pre_quantised.lean ====
abbrev S1x128x2880 : Shape := ⟨3, ![1, 128, 2880]⟩
abbrev S_ : Shape := ⟨0, ![]⟩
abbrev S1440x23040 : Shape := ⟨2, ![1440, 23040]⟩
abbrev S23040 : Shape := ⟨1, ![23040]⟩

class Facts : Prop where
  bcast_S_S23040 : S_.BroadcastsInDim S23040 (![] : Fin 0 → Fin S23040.rank)

variable [Facts]

def fn {F : FTy → Type} [FloatOps F] (main_arg0 : IVec S1x128x2880 8) (main_arg1 : IVec S_ 32) (main_arg2 : IVec S1440x23040 8) (main_arg3 : IVec S23040 32) (main_arg4 : IVec S23040 32) (main_arg5 : IVec S23040 32) (main_arg6 : IVec S_ 32) : IVec S_ 1 × IVec S23040 1 × IVec S23040 1 × IVec S_ 1 :=
  let main_c : IVec S_ 32 := constantI S_ 32 4294874217#32
  let main_v0 : IVec S_ 1 := cmpi .sge main_arg1 main_c
  let main_c_0 : IVec S_ 32 := constantI S_ 32 93078#32
  let main_v1 : IVec S_ 1 := cmpi .sle main_arg1 main_c_0
  let main_v2 : IVec S_ 1 := andi main_v0 main_v1
  let main_c_1 : IVec S_ 32 := constantI S_ 32 0#32
  let main_v3 : IVec S23040 32 := broadcastInDim S23040 ![] bcast_S_S23040 main_c_1
  let main_v4 : IVec S23040 1 := cmpi .sge main_arg4 main_v3
  let main_c_2 : IVec S_ 32 := constantI S_ 32 1#32
  let main_v5 : IVec S23040 32 := broadcastInDim S23040 ![] bcast_S_S23040 main_c_2
  let main_v6 : IVec S23040 1 := cmpi .sge main_arg5 main_v5
  let main_c_3 : IVec S_ 32 := constantI S_ 32 31#32
  let main_v7 : IVec S23040 32 := broadcastInDim S23040 ![] bcast_S_S23040 main_c_3
  let main_v8 : IVec S23040 1 := cmpi .sle main_arg5 main_v7
  let main_v9 : IVec S23040 1 := andi main_v6 main_v8
  let main_c_4 : IVec S_ 32 := constantI S_ 32 3221225600#32
  let main_v10 : IVec S_ 1 := cmpi .sge main_arg6 main_c_4
  let main_c_5 : IVec S_ 32 := constantI S_ 32 1073741695#32
  let main_v11 : IVec S_ 1 := cmpi .sle main_arg6 main_c_5
  let main_v12 : IVec S_ 1 := andi main_v10 main_v11
  (main_v2, main_v4, main_v9, main_v12)
-- ==== Kernel.lean ====
abbrev S1x128x2880 : Shape := ⟨3, ![1, 128, 2880]⟩
abbrev S_ : Shape := ⟨0, ![]⟩
abbrev S1440x23040 : Shape := ⟨2, ![1440, 23040]⟩
abbrev S23040 : Shape := ⟨1, ![23040]⟩
abbrev S1 : Shape := ⟨1, ![1]⟩
abbrev S128x2880 : Shape := ⟨2, ![128, 2880]⟩
abbrev S1x23040 : Shape := ⟨2, ![1, 23040]⟩
abbrev S128x23040 : Shape := ⟨2, ![128, 23040]⟩
abbrev S1440x1280 : Shape := ⟨2, ![1440, 1280]⟩
abbrev S1x1280 : Shape := ⟨2, ![1, 1280]⟩
abbrev S128x1280 : Shape := ⟨2, ![128, 1280]⟩
abbrev S1440x1x1280 : Shape := ⟨3, ![1440, 1, 1280]⟩
abbrev S1440x2x1280 : Shape := ⟨3, ![1440, 2, 1280]⟩
abbrev S2880x1280 : Shape := ⟨2, ![2880, 1280]⟩
abbrev S1x128x23040 : Shape := ⟨3, ![1, 128, 23040]⟩

abbrev nBuf : Space → Nat
  | .hbm => 15
  | .vmem => 12
  | .smem => 2
  | _ => 0

abbrev bufTy : (tb : Table) → Fin (tcTables nBuf tb) → BufTy
  | .hbm, ⟨0, _⟩ => ⟨S1x128x2880, .i8⟩
  | .hbm, ⟨1, _⟩ => ⟨S_, .i32⟩
  | .hbm, ⟨2, _⟩ => ⟨S1440x23040, .i8⟩
  | .hbm, ⟨3, _⟩ => ⟨S23040, .i32⟩
  | .hbm, ⟨4, _⟩ => ⟨S23040, .i32⟩
  | .hbm, ⟨5, _⟩ => ⟨S23040, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S128x2880, .i8⟩
  | .hbm, ⟨10, _⟩ => ⟨S1x23040, .i32⟩
  | .hbm, ⟨11, _⟩ => ⟨S1x23040, .i32⟩
  | .hbm, ⟨12, _⟩ => ⟨S1x23040, .i32⟩
  | .hbm, ⟨13, _⟩ => ⟨S128x23040, .i8⟩
  | .hbm, ⟨14, _⟩ => ⟨S1x128x23040, .i8⟩
  | .local _ .vmem, ⟨0, _⟩ => ⟨S128x2880, .i8⟩
  | .local _ .vmem, ⟨1, _⟩ => ⟨S1440x1280, .i8⟩
  | .local _ .vmem, ⟨2, _⟩ => ⟨S1440x1280, .i8⟩
  | .local _ .vmem, ⟨3, _⟩ => ⟨S1x1280, .i32⟩
  | .local _ .vmem, ⟨4, _⟩ => ⟨S1x1280, .i32⟩
  | .local _ .vmem, ⟨5, _⟩ => ⟨S1x1280, .i32⟩
  | .local _ .vmem, ⟨6, _⟩ => ⟨S1x1280, .i32⟩
  | .local _ .vmem, ⟨7, _⟩ => ⟨S1x1280, .i32⟩
  | .local _ .vmem, ⟨8, _⟩ => ⟨S1x1280, .i32⟩
  | .local _ .vmem, ⟨9, _⟩ => ⟨S128x1280, .i8⟩
  | .local _ .vmem, ⟨10, _⟩ => ⟨S128x1280, .i8⟩
  | .local _ .vmem, ⟨11, _⟩ => ⟨S128x2880, .bf16⟩
  | .local _ .smem, ⟨0, _⟩ => ⟨S1, .i32⟩
  | .local _ .smem, ⟨1, _⟩ => ⟨S1, .i32⟩
  | _, _ => ⟨S1x128x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1440x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1280 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1280 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x128x2880 : Shape := ⟨3, ![1, 128, 2880]⟩
abbrev S_ : Shape := ⟨0, ![]⟩
abbrev S1440x23040 : Shape := ⟨2, ![1440, 23040]⟩
abbrev S23040 : Shape := ⟨1, ![23040]⟩
abbrev S128x2880 : Shape := ⟨2, ![128, 2880]⟩
abbrev S128x1440 : Shape := ⟨2, ![128, 1440]⟩
abbrev S128x23040 : Shape := ⟨2, ![128, 23040]⟩
abbrev S1x23040 : Shape := ⟨2, ![1, 23040]⟩
abbrev S1x128x23040 : Shape := ⟨3, ![1, 128, 23040]⟩

abbrev nBuf : Space → Nat
  | .hbm => 141
  | .vmem => 6
  | .smem => 0
  | _ => 0

abbrev hbmTy0_0 (i : Nat) : BufTy := match i % 128 with
  | 0 => ⟨S1x128x2880, .i8⟩
  | 1 => ⟨S_, .i32⟩
  | 2 => ⟨S1440x23040, .i8⟩
  | 3 => ⟨S23040, .i32⟩
  | 4 => ⟨S23040, .i32⟩
  | 5 => ⟨S23040, .i32⟩
  | 6 => ⟨S_, .i32⟩
  | 7 => ⟨S1440x23040, .i32⟩
  | 8 => ⟨S_, .i32⟩
  | 9 => ⟨S1440x23040, .i32⟩
  | 10 => ⟨S1440x23040, .i32⟩
  | 11 => ⟨S_, .i32⟩
  | 12 => ⟨S1440x23040, .i32⟩
  | 13 => ⟨S1440x23040, .i32⟩
  | 14 => ⟨S1440x23040, .i8⟩
  | 15 => ⟨S_, .i32⟩
  | 16 => ⟨S1440x23040, .i32⟩
  | 17 => ⟨S1440x23040, .i32⟩
  | 18 => ⟨S_, .i32⟩
  | 19 => ⟨S1440x23040, .i32⟩
  | 20 => ⟨S1440x23040, .i32⟩
  | 21 => ⟨S1440x23040, .i8⟩
  | 22 => ⟨S128x2880, .i8⟩
  | 23 => ⟨S128x1440, .i8⟩
  | 24 => ⟨S128x1440, .i8⟩
  | 25 => ⟨S128x23040, .i32⟩
  | 26 => ⟨S128x23040, .i32⟩
  | 27 => ⟨S128x23040, .i32⟩
  | 28 => ⟨S1440x23040, .i32⟩
  | 29 => ⟨S_, .i32⟩
  | 30 => ⟨S23040, .i32⟩
  | 31 => ⟨S1440x23040, .i32⟩
  | 32 => ⟨S_, .i32⟩
  | 33 => ⟨S23040, .i32⟩
  | 34 => ⟨S23040, .i32⟩
  | 35 => ⟨S23040, .i32⟩
  | 36 => ⟨S23040, .i32⟩
  | 37 => ⟨S1x23040, .i32⟩
  | 38 => ⟨S128x23040, .i32⟩
  | 39 => ⟨S128x23040, .i32⟩
  | 40 => ⟨S1x23040, .i32⟩
  | 41 => ⟨S128x23040, .i32⟩
  | 42 => ⟨S128x23040, .i32⟩
  | 43 => ⟨S_, .i32⟩
  | 44 => ⟨S128x23040, .i32⟩
  | 45 => ⟨S128x23040, .i1⟩
  | 46 => ⟨S128x23040, .i32⟩
  | 47 => ⟨S128x23040, .i32⟩
  | 48 => ⟨S23040, .i32⟩
  | 49 => ⟨S_, .i32⟩
  | 50 => ⟨S128x23040, .i32⟩
  | 51 => ⟨S128x23040, .i32⟩
  | 52 => ⟨S_, .i32⟩
  | 53 => ⟨S128x23040, .i32⟩
  | 54 => ⟨S128x23040, .i32⟩
  | 55 => ⟨S_, .i32⟩
  | 56 => ⟨S23040, .i32⟩
  | 57 => ⟨S23040, .i32⟩
  | 58 => ⟨S_, .i32⟩
  | 59 => ⟨S23040, .i32⟩
  | 60 => ⟨S23040, .i32⟩
  | 61 => ⟨S1x23040, .i32⟩
  | 62 => ⟨S128x23040, .i32⟩
  | 63 => ⟨S128x23040, .i32⟩
  | 64 => ⟨S1x23040, .i32⟩
  | 65 => ⟨S128x23040, .i32⟩
  | 66 => ⟨S128x23040, .i32⟩
  | 67 => ⟨S1x23040, .i32⟩
  | 68 => ⟨S128x23040, .i32⟩
  | 69 => ⟨S128x23040, .i32⟩
  | 70 => ⟨S128x23040, .i32⟩
  | 71 => ⟨S1x23040, .i32⟩
  | 72 => ⟨S128x23040, .i32⟩
  | 73 => ⟨S128x23040, .i32⟩
  | 74 => ⟨S_, .i32⟩
  | 75 => ⟨S128x23040, .i32⟩
  | 76 => ⟨S128x23040, .i32⟩
  | 77 => ⟨S128x23040, .i32⟩
  | 78 => ⟨S_, .i32⟩
  | 79 => ⟨S128x23040, .i32⟩
  | 80 => ⟨S128x23040, .i32⟩
  | 81 => ⟨S128x23040, .i32⟩
  | 82 => ⟨S128x23040, .i1⟩
  | 83 => ⟨S128x23040, .i32⟩
  | 84 => ⟨S128x23040, .i32⟩
  | 85 => ⟨S_, .i32⟩
  | 86 => ⟨S_, .i32⟩
  | 87 => ⟨S128x23040, .i32⟩
  | 88 => ⟨S128x23040, .i32⟩
  | 89 => ⟨S128x23040, .i32⟩
  | 90 => ⟨S128x23040, .i32⟩
  | 91 => ⟨S128x23040, .i1⟩
  | 92 => ⟨S128x23040, .i32⟩
  | 93 => ⟨S128x23040, .i32⟩
  | 94 => ⟨S_, .i32⟩
  | 95 => ⟨S128x23040, .i32⟩
  | 96 => ⟨S128x23040, .i32⟩
  | 97 => ⟨S_, .i32⟩
  | 98 => ⟨S128x23040, .i32⟩
  | 99 => ⟨S128x23040, .i32⟩
  | 100 => ⟨S128x23040, .i32⟩
  | 101 => ⟨S128x23040, .i32⟩
  | 102 => ⟨S128x23040, .i32⟩
  | 103 => ⟨S128x23040, .i32⟩
  | 104 => ⟨S_, .i32⟩
  | 105 => ⟨S23040, .i32⟩
  | 106 => ⟨S23040, .i32⟩
  | 107 => ⟨S_, .i32⟩
  | 108 => ⟨S23040, .i32⟩
  | 109 => ⟨S23040, .i32⟩
  | 110 => ⟨S1x23040, .i32⟩
  | 111 => ⟨S128x23040, .i32⟩
  | 112 => ⟨S128x23040, .i32⟩
  | 113 => ⟨S_, .i32⟩
  | 114 => ⟨S23040, .i32⟩
  | 115 => ⟨S23040, .i32⟩
  | 116 => ⟨S_, .i32⟩
  | 117 => ⟨S128x23040, .i32⟩
  | 118 => ⟨S128x23040, .i1⟩
  | 119 => ⟨S128x23040, .i32⟩
  | 120 => ⟨S1x23040, .i32⟩
  | 121 => ⟨S128x23040, .i32⟩
  | 122 => ⟨S128x23040, .i32⟩
  | 123 => ⟨S1x23040, .i32⟩
  | 124 => ⟨S128x23040, .i32⟩
  | 125 => ⟨S128x23040, .i32⟩
  | 126 => ⟨S128x23040, .i1⟩
  | 127 => ⟨S128x23040, .i32⟩
  | _ => ⟨S1x128x2880, .i8⟩

abbrev hbmTy0_1 (i : Nat) : BufTy := match i % 128 with
  | 0 => ⟨S128x23040, .i32⟩
  | 1 => ⟨S128x23040, .i32⟩
  | 2 => ⟨S128x23040, .i32⟩
  | 3 => ⟨S_, .i32⟩
  | 4 => ⟨S_, .i32⟩
  | 5 => ⟨S_, .i32⟩
  | 6 => ⟨S128x23040, .i32⟩
  | 7 => ⟨S128x23040, .i32⟩
  | 8 => ⟨S_, .i32⟩
  | 9 => ⟨S128x23040, .i32⟩
  | 10 => ⟨S128x23040, .i32⟩
  | 11 => ⟨S128x23040, .i8⟩
  | 12 => ⟨S1x128x23040, .i8⟩
  | _ => ⟨S1x128x2880, .i8⟩

abbrev hbmTy (i : Nat) : BufTy := match i / 128 with
  | 0 => hbmTy0_0 i
  | 1 => hbmTy0_1 i
  | _ => ⟨S1x128x2880, .i8⟩

abbrev bufTy : (tb : Table) → Fin (tcTables nBuf tb) → BufTy
  | .hbm, ⟨i, _⟩ => hbmTy i
  | .local _ .vmem, ⟨0, _⟩ => ⟨S128x1440, .i8⟩
  | .local _ .vmem, ⟨1, _⟩ => ⟨S128x1440, .i8⟩
  | .local _ .vmem, ⟨2, _⟩ => ⟨S1440x23040, .i8⟩
  | .local _ .vmem, ⟨3, _⟩ => ⟨S1440x23040, .i8⟩
  | .local _ .vmem, ⟨4, _⟩ => ⟨S128x23040, .i32⟩
  | .local _ .vmem, ⟨5, _⟩ => ⟨S128x23040, .i32⟩
  | _, _ => ⟨S1x128x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_12 : Ref sig .tc := ⟨.hbm, 85, rfl⟩
abbrev main_c_13 : Ref sig .tc := ⟨.hbm, 86, rfl⟩
abbrev main_call0_v0 : Ref sig .tc := ⟨.hbm, 87, rfl⟩
abbrev main_call0_v1 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_18 : Ref sig .tc := ⟨.hbm, 113, rfl⟩
abbrev main_v84 : Ref sig .tc := ⟨.hbm, 114, rfl⟩
abbrev main_v85 : Ref sig .tc := ⟨.hbm, 115, rfl⟩
abbrev main_c_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_20 : Ref sig .tc := ⟨.hbm, 131, rfl⟩
abbrev main_c_21 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x1440 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1440 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1440x23040 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1440x23040 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x23040 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x23040 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Multiply.lean ====
module

public import Idealize.ShloMosaic.PureOps
public import Mathlib.Tactic.Ring
public import Mathlib.Tactic.Linarith
public import Mathlib.Tactic.NormNum

@[expose] public section

open Idealize.ShloMosaic

/-! # The kernel's rounded high product

What the kernel computes from an accumulator and a multiplier through unsigned 16-bit halves, as an integer formula. -/

namespace Cert.Requant

/-- Flipping the top bit of a word adds 2³¹ to the integer it stands for. -/
theorem toNat_flip (x : BitVec 32) : ((x ^^^ 2147483648#32).toNat : Int) = x.toInt + 2 ^ 31 := by
  have h : x ^^^ 2147483648#32 = x + 2147483648#32 := by
    apply BitVec.eq_of_toNat_eq
    rw [BitVec.toNat_xor, BitVec.toNat_add]
    apply Nat.eq_of_testBit_eq
    intro i
    rw [Nat.testBit_xor, Nat.testBit_mod_two_pow, Nat.add_comm,
      show (2147483648#32).toNat = 2 ^ 31 from rfl, Nat.testBit_two_pow]
    rcases Nat.lt_trichotomy i 31 with hi | hi | hi
    · rw [Nat.testBit_two_pow_add_gt hi, decide_eq_false (by omega : ¬ 31 = i), decide_eq_true (by omega : i < 32)]
      simp
    · subst hi
      rw [Nat.testBit_two_pow_add_eq]
      simp
    · rw [decide_eq_false (by omega : ¬ 31 = i), decide_eq_false (by omega : ¬ i < 32),
        Nat.testBit_lt_two_pow (Nat.lt_of_lt_of_le x.isLt (Nat.pow_le_pow_right (by decide) (by omega : 32 ≤ i)))]
      rfl
  rw [h, BitVec.toNat_add, BitVec.toInt_eq_toNat_cond]
  have := x.isLt
  split <;> simp <;> omega

/-- The long product by 16-bit halves: the sum of the partial products' high parts is the high word. -/
theorem high_word (ah al bh bl : Nat) (h1 : ah < 65536) (h2 : al < 65536) (h3 : bh < 65536) (h4 : bl < 65536) :
    ah * bh + (al * bh + al * bl / 65536) / 65536 + (ah * bl + (al * bh + al * bl / 65536) % 65536) / 65536
      = (ah * 65536 + al) * (bh * 65536 + bl) / 4294967296 := by
  have e : (ah * 65536 + al) * (bh * 65536 + bl)
      = (ah * bh) * 4294967296 + (ah * bl + al * bh) * 65536 + al * bl := by ring
  rw [e]
  omega

/-- A logical shift right by 16 divides the unsigned value by 2¹⁶. -/
theorem shr16 (u : ArithUnit) (x : BitVec 32) : (IntOp.shrui u x 16#32).toNat = x.toNat / 65536 := by
  show (x >>> 16).toNat = _
  rw [BitVec.toNat_ushiftRight, Nat.shiftRight_eq_div_pow]

/-- A logical shift right by 31 divides the unsigned value by 2³¹. -/
theorem shr31 (u : ArithUnit) (x : BitVec 32) : (IntOp.shrui u x 31#32).toNat = x.toNat / 2147483648 := by
  show (x >>> 31).toNat = _
  rw [BitVec.toNat_ushiftRight, Nat.shiftRight_eq_div_pow]

/-- The low half of a word is its unsigned value modulo 2¹⁶. -/
theorem and16 (x : BitVec 32) : (IntOp.andi x 65535#32).toNat = x.toNat % 65536 := by
  show (x &&& 65535#32).toNat = _
  rw [BitVec.toNat_and]
  exact Nat.and_two_pow_sub_one_eq_mod x.toNat 16

/-- An unsigned sum that fits 32 bits does not wrap. -/
theorem addN (x y : BitVec 32) (h : x.toNat + y.toNat < 4294967296) : (IntOp.addi x y).toNat = x.toNat + y.toNat := by
  show (x + y).toNat = _
  rw [BitVec.toNat_add]; omega

/-- The unsigned product of two words wraps modulo 2³². -/
theorem mulN (x y : BitVec 32) : (IntOp.muli x y).toNat = x.toNat * y.toNat % 4294967296 := by
  show (x * y).toNat = _
  rw [BitVec.toNat_mul]

/-- The product of two half words fits 32 bits. -/
theorem mulN16 (x y : BitVec 32) (hx : x.toNat < 65536) (hy : y.toNat < 65536) :
    (IntOp.muli x y).toNat = x.toNat * y.toNat := by
  rw [mulN]
  have := Nat.mul_le_mul (Nat.le_of_lt_succ hx : x.toNat ≤ 65535) (Nat.le_of_lt_succ hy : y.toNat ≤ 65535)
  omega

/-- The kernel's rounded high word of an unsigned product: four half products, and the top bit of the low word. -/
def mulHigh (a b : BitVec 32) : BitVec 32 :=
  let al := IntOp.andi a 65535#32
  let ah := IntOp.shrui .vector a 16#32
  let bh := IntOp.shrui .vector b 16#32
  let bl := IntOp.andi b 65535#32
  let t := IntOp.addi (IntOp.muli al bh) (IntOp.shrui .vector (IntOp.muli al bl) 16#32)
  IntOp.addi
    (IntOp.addi (IntOp.addi (IntOp.muli ah bh) (IntOp.shrui .vector t 16#32))
      (IntOp.shrui .vector (IntOp.addi (IntOp.muli ah bl) (IntOp.andi t 65535#32)) 16#32))
    (IntOp.shrui .vector (IntOp.muli a b) 31#32)

theorem mulHigh_toNat (a b : BitVec 32) (hb : b.toNat ≤ 4294967294) :
    (mulHigh a b).toNat = (a.toNat * b.toNat + 2147483648) / 4294967296 := by
  have ha := a.isLt
  have hP : a.toNat * b.toNat ≤ 4294967295 * 4294967294 := Nat.mul_le_mul (by omega) hb
  have e := high_word (a.toNat / 65536) (a.toNat % 65536) (b.toNat / 65536) (b.toNat % 65536)
    (by omega) (by omega) (by omega) (by omega)
  have l1 := Nat.mul_le_mul (by omega : a.toNat % 65536 ≤ 65535) (by omega : b.toNat / 65536 ≤ 65535)
  have l2 := Nat.mul_le_mul (by omega : a.toNat % 65536 ≤ 65535) (by omega : b.toNat % 65536 ≤ 65535)
  have l3 := Nat.mul_le_mul (by omega : a.toNat / 65536 ≤ 65535) (by omega : b.toNat % 65536 ≤ 65535)
  have l4 := Nat.mul_le_mul (by omega : a.toNat / 65536 ≤ 65535) (by omega : b.toNat / 65536 ≤ 65535)
  rw [show a.toNat / 65536 * 65536 + a.toNat % 65536 = a.toNat by omega,
    show b.toNat / 65536 * 65536 + b.toNat % 65536 = b.toNat by omega] at e
  have q1 : (IntOp.muli (IntOp.andi a 65535#32) (IntOp.shrui .vector b 16#32)).toNat
      = a.toNat % 65536 * (b.toNat / 65536) := by
    rw [mulN16 _ _ (by rw [and16]; omega) (by rw [shr16]; omega), and16, shr16]
  have q2 : (IntOp.muli (IntOp.andi a 65535#32) (IntOp.andi b 65535#32)).toNat
      = a.toNat % 65536 * (b.toNat % 65536) := by
    rw [mulN16 _ _ (by rw [and16]; omega) (by rw [and16]; omega), and16, and16]
  have q3 : (IntOp.muli (IntOp.shrui .vector a 16#32) (IntOp.andi b 65535#32)).toNat
      = a.toNat / 65536 * (b.toNat % 65536) := by
    rw [mulN16 _ _ (by rw [shr16]; omega) (by rw [and16]; omega), shr16, and16]
  have q4 : (IntOp.muli (IntOp.shrui .vector a 16#32) (IntOp.shrui .vector b 16#32)).toNat
      = a.toNat / 65536 * (b.toNat / 65536) := by
    rw [mulN16 _ _ (by rw [shr16]; omega) (by rw [shr16]; omega), shr16, shr16]
  generalize a.toNat % 65536 * (b.toNat / 65536) = p1 at *
  generalize a.toNat % 65536 * (b.toNat % 65536) = p2 at *
  generalize a.toNat / 65536 * (b.toNat % 65536) = p3 at *
  generalize a.toNat / 65536 * (b.toNat / 65536) = p4 at *
  have t : (IntOp.addi (IntOp.muli (IntOp.andi a 65535#32) (IntOp.shrui .vector b 16#32)) (IntOp.shrui .vector
      (IntOp.muli (IntOp.andi a 65535#32) (IntOp.andi b 65535#32)) 16#32)).toNat = p1 + p2 / 65536 := by
    rw [addN _ _ (by rw [q1, shr16, q2]; omega), q1, shr16, q2]
  have v : (IntOp.muli a b).toNat = a.toNat * b.toNat % 4294967296 := mulN a b
  unfold mulHigh
  dsimp only
  generalize a.toNat * b.toNat = P at *
  have s1 : (IntOp.addi (IntOp.muli (IntOp.shrui .vector a 16#32) (IntOp.andi b 65535#32)) (IntOp.andi
      (IntOp.addi (IntOp.muli (IntOp.andi a 65535#32) (IntOp.shrui .vector b 16#32)) (IntOp.shrui .vector
      (IntOp.muli (IntOp.andi a 65535#32) (IntOp.andi b 65535#32)) 16#32)) 65535#32)).toNat
        = p3 + (p1 + p2 / 65536) % 65536 := by
    rw [addN _ _ (by rw [q3, and16, t]; omega), q3, and16, t]
  have s2 : (IntOp.addi (IntOp.muli (IntOp.shrui .vector a 16#32) (IntOp.shrui .vector b 16#32)) (IntOp.shrui .vector
      (IntOp.addi (IntOp.muli (IntOp.andi a 65535#32) (IntOp.shrui .vector b 16#32)) (IntOp.shrui .vector
      (IntOp.muli (IntOp.andi a 65535#32) (IntOp.andi b 65535#32)) 16#32)) 16#32)).toNat
        = p4 + (p1 + p2 / 65536) / 65536 := by
    rw [addN _ _ (by rw [q4, shr16, t]; omega), q4, shr16, t]
  rw [addN _ _ (by rw [addN _ _ (by rw [s2, shr16, s1]; omega), s2, shr16, s1, shr31, v]; omega),
    addN _ _ (by rw [s2, shr16, s1]; omega), s2, shr16, s1, shr31, v]
  omega

/-- The kernel's fixed-point product of an accumulator and a multiplier: the unsigned product of the accumulator with
    its top bit flipped and twice the multiplier, less the multiplier. -/
def kernelMul (acc m0 : BitVec 32) : BitVec 32 :=
  IntOp.subi (mulHigh (IntOp.xori acc 2147483648#32) (IntOp.addi m0 m0)) m0

/-- It is the product over 2³¹, rounded to the nearest, a half upwards. -/
theorem kernelMul_toInt (acc m0 : BitVec 32) (hm : 0 ≤ m0.toInt) :
    (kernelMul acc m0).toInt = (acc.toInt * m0.toInt + 1073741824) / 2147483648 := by
  have hm2 := BitVec.toInt_lt (x := m0)
  have ha1 := BitVec.le_toInt (x := acc)
  have ha2 := BitVec.toInt_lt (x := acc)
  norm_num at hm2 ha1 ha2
  have hmN : (m0.toNat : Int) = m0.toInt := by
    rw [BitVec.toInt_eq_toNat_cond] at hm ⊢
    have := m0.isLt
    split at hm <;> rename_i h <;> simp only [h, if_true, if_false] at * <;> omega
  have hb : (IntOp.addi m0 m0).toNat = m0.toNat + m0.toNat := addN _ _ (by omega)
  have ha := toNat_flip acc
  have hk := mulHigh_toNat (IntOp.xori acc 2147483648#32) (IntOp.addi m0 m0) (by omega)
  have hk' : ((mulHigh (IntOp.xori acc 2147483648#32) (IntOp.addi m0 m0)).toNat : Int)
      = m0.toInt + (acc.toInt * m0.toInt + 1073741824) / 2147483648 := by
    rw [hk]
    push_cast
    rw [show ((IntOp.xori acc 2147483648#32).toNat : Int) = acc.toInt + 2 ^ 31 from ha, hb]
    push_cast
    rw [hmN, show (acc.toInt + 2147483648) * (m0.toInt + m0.toInt) + 2147483648
      = 2 * (acc.toInt * m0.toInt) + 4294967296 * m0.toInt + 2147483648 by ring]
    omega
  have b1 : acc.toInt * m0.toInt ≤ 2147483647 * 2147483647 := by nlinarith
  have b2 : -(2147483648 * 2147483647) ≤ acc.toInt * m0.toInt := by nlinarith
  show (mulHigh (IntOp.xori acc 2147483648#32) (IntOp.addi m0 m0) - m0).toInt = _
  rw [BitVec.toInt_sub, BitVec.toInt_eq_toNat_bmod, hk', Int.bmod_sub_bmod]
  rw [show m0.toInt + (acc.toInt * m0.toInt + 1073741824) / 2147483648 - m0.toInt
    = (acc.toInt * m0.toInt + 1073741824) / 2147483648 by ring]
  apply Int.bmod_eq_of_le <;> omega

end Cert.Requant
-- ==== Proof.RefMultiply.lean ====
module

public import proofs.«01_k».proof.Proof.Multiply

@[expose] public section

open Idealize.ShloMosaic

/-! # The reference's rounded high product

What the reference computes from the magnitude of an accumulator, a nudge and a sign, as an integer formula. -/

namespace Cert.Requant

/-- The carry of an unsigned sum: whether the wrapped sum is less than its first term. -/
theorem carry (x y : BitVec 32) :
    ((IntOp.cmpi .ult x y).setWidth 32).toNat = if x.toNat < y.toNat then 1 else 0 := by
  unfold IntOp.cmpi
  dsimp only
  rw [BitVec.ult]
  by_cases h : x.toNat < y.toNat <;> simp [h]

/-- A shift left by 16 multiplies the unsigned value by 2¹⁶, modulo 2³². -/
theorem shl16 (u : ArithUnit) (x : BitVec 32) : (IntOp.shli u x 16#32).toNat = x.toNat * 65536 % 4294967296 := by
  show (x <<< 16).toNat = _
  rw [BitVec.toNat_shiftLeft, Nat.shiftLeft_eq]

/-- A word below 2³¹ shifted left by one, with a bit put in its lowest place, is twice the word plus the bit. -/
theorem shl1_or (u : ArithUnit) (x y : BitVec 32) (hx : x.toNat < 2147483648) (hy : y.toNat < 2) :
    (IntOp.ori (IntOp.shli u x 1#32) y).toNat = x.toNat * 2 + y.toNat := by
  show ((x <<< 1) ||| y).toNat = _
  rw [BitVec.toNat_or, BitVec.toNat_shiftLeft, Nat.shiftLeft_eq, Nat.mod_eq_of_lt (by omega)]
  have := Nat.shiftLeft_add_eq_or_of_lt (i := 1) (b := y.toNat) (by omega) x.toNat
  rw [Nat.shiftLeft_eq] at this
  omega

/-- The unsigned sum of two words wraps modulo 2³². -/
theorem addNm (x y : BitVec 32) : (IntOp.addi x y).toNat = (x.toNat + y.toNat) % 4294967296 := by
  show (x + y).toNat = _
  rw [BitVec.toNat_add]

/-- A sum that wraps is smaller than either term, so comparing finds the carry. -/
theorem carry_sum (x n s : Nat) (hx : x < 4294967296) (hn : n < 4294967296) (hs : s = (x + n) % 4294967296) :
    (if s < x then 1 else 0) * 4294967296 + s = x + n := by
  split <;> omega

/-- The reference's rounded product of a magnitude and a multiplier: the 64-bit product by 16-bit halves with its
    carries, the nudge added to the low word, and bits 31 and up of the sum. -/
def magnitude (u m0 n : BitVec 32) : BitVec 32 :=
  let ah := IntOp.shrui .host u 16#32
  let al := IntOp.andi u 65535#32
  let mh := IntOp.shrui .host m0 16#32
  let ml := IntOp.andi m0 65535#32
  let ll := IntOp.muli al ml
  let mid := IntOp.addi (IntOp.muli ah ml) (IntOp.muli al mh)
  let lo := IntOp.addi ll (IntOp.shli .host mid 16#32)
  let lo2 := IntOp.addi lo n
  let hi := IntOp.addi (IntOp.addi (IntOp.addi (IntOp.muli ah mh) (IntOp.shrui .host mid 16#32))
    ((IntOp.cmpi .ult lo ll).setWidth 32)) ((IntOp.cmpi .ult lo2 lo).setWidth 32)
  IntOp.ori (IntOp.shli .host hi 1#32) (IntOp.shrui .host lo2 31#32)

/-- It is the quotient by 2³¹ of the product with the nudge added. -/
theorem magnitude_toNat (u m0 n : BitVec 32) (hu : u.toNat ≤ 2147483648) (hm : m0.toNat < 2147483648)
    (hn : n.toNat ≤ 1073741824) : (magnitude u m0 n).toNat = (u.toNat * m0.toNat + n.toNat) / 2147483648 := by
  have hP : u.toNat * m0.toNat ≤ 2147483648 * 2147483647 := Nat.mul_le_mul hu (by omega)
  have l1 := Nat.mul_le_mul (by omega : u.toNat % 65536 ≤ 65535) (by omega : m0.toNat / 65536 ≤ 32767)
  have l2 := Nat.mul_le_mul (by omega : u.toNat % 65536 ≤ 65535) (by omega : m0.toNat % 65536 ≤ 65535)
  have l3 := Nat.mul_le_mul (by omega : u.toNat / 65536 ≤ 32768) (by omega : m0.toNat % 65536 ≤ 65535)
  have l4 := Nat.mul_le_mul (by omega : u.toNat / 65536 ≤ 32768) (by omega : m0.toNat / 65536 ≤ 32767)
  have e : u.toNat * m0.toNat = (u.toNat / 65536 * (m0.toNat / 65536)) * 4294967296
      + (u.toNat / 65536 * (m0.toNat % 65536) + u.toNat % 65536 * (m0.toNat / 65536)) * 65536
      + u.toNat % 65536 * (m0.toNat % 65536) := by
    have h1 : u.toNat = u.toNat / 65536 * 65536 + u.toNat % 65536 := by omega
    have h2 : m0.toNat = m0.toNat / 65536 * 65536 + m0.toNat % 65536 := by omega
    calc u.toNat * m0.toNat = (u.toNat / 65536 * 65536 + u.toNat % 65536) * (m0.toNat / 65536 * 65536 + m0.toNat % 65536) := by
          rw [← h1, ← h2]
      _ = _ := by ring
  have q1 : (IntOp.muli (IntOp.andi u 65535#32) (IntOp.shrui .host m0 16#32)).toNat
      = u.toNat % 65536 * (m0.toNat / 65536) := by
    rw [mulN16 _ _ (by rw [and16]; omega) (by rw [shr16]; omega), and16, shr16]
  have q2 : (IntOp.muli (IntOp.andi u 65535#32) (IntOp.andi m0 65535#32)).toNat
      = u.toNat % 65536 * (m0.toNat % 65536) := by
    rw [mulN16 _ _ (by rw [and16]; omega) (by rw [and16]; omega), and16, and16]
  have q3 : (IntOp.muli (IntOp.shrui .host u 16#32) (IntOp.andi m0 65535#32)).toNat
      = u.toNat / 65536 * (m0.toNat % 65536) := by
    rw [mulN16 _ _ (by rw [shr16]; omega) (by rw [and16]; omega), shr16, and16]
  have q4 : (IntOp.muli (IntOp.shrui .host u 16#32) (IntOp.shrui .host m0 16#32)).toNat
      = u.toNat / 65536 * (m0.toNat / 65536) := by
    rw [mulN16 _ _ (by rw [shr16]; omega) (by rw [shr16]; omega), shr16, shr16]
  unfold magnitude
  dsimp only
  generalize u.toNat * m0.toNat = P at *
  generalize u.toNat % 65536 * (m0.toNat / 65536) = p1 at *
  generalize u.toNat % 65536 * (m0.toNat % 65536) = p2 at *
  generalize u.toNat / 65536 * (m0.toNat % 65536) = p3 at *
  generalize u.toNat / 65536 * (m0.toNat / 65536) = p4 at *
  generalize IntOp.muli (IntOp.andi u 65535#32) (IntOp.shrui .host m0 16#32) = w1 at *
  generalize IntOp.muli (IntOp.andi u 65535#32) (IntOp.andi m0 65535#32) = w2 at *
  generalize IntOp.muli (IntOp.shrui .host u 16#32) (IntOp.andi m0 65535#32) = w3 at *
  generalize IntOp.muli (IntOp.shrui .host u 16#32) (IntOp.shrui .host m0 16#32) = w4 at *
  have hmid : (IntOp.addi w3 w1).toNat = p3 + p1 := by rw [addN _ _ (by omega), q3, q1]
  generalize IntOp.addi w3 w1 = mid at *
  have hlo : (IntOp.addi w2 (IntOp.shli .host mid 16#32)).toNat
      = (p2 + (p3 + p1) * 65536 % 4294967296) % 4294967296 := by rw [addNm, q2, shl16, hmid]
  generalize IntOp.addi w2 (IntOp.shli .host mid 16#32) = lo at *
  have hlo2 : (IntOp.addi lo n).toNat = (lo.toNat + n.toNat) % 4294967296 := addNm _ _
  generalize IntOp.addi lo n = lo2 at *
  have c1 := carry lo w2
  have c2 := carry lo2 lo
  have c1' : ((IntOp.cmpi .ult lo w2).setWidth 32).toNat ≤ 1 := by rw [c1]; split <;> omega
  have c2' : ((IntOp.cmpi .ult lo2 lo).setWidth 32).toNat ≤ 1 := by rw [c2]; split <;> omega
  generalize (IntOp.cmpi .ult lo w2).setWidth 32 = d1 at *
  generalize (IntOp.cmpi .ult lo2 lo).setWidth 32 = d2 at *
  have k1 : d1.toNat * 4294967296 + lo.toNat = p2 + (p3 + p1) % 65536 * 65536 := by
    rw [c1, ← q2]
    have := carry_sum w2.toNat ((p3 + p1) * 65536 % 4294967296) lo.toNat (by omega) (by omega) (by rw [hlo, q2])
    omega
  have k2 : d2.toNat * 4294967296 + lo2.toNat = lo.toNat + n.toNat := by
    rw [c2]
    exact carry_sum lo.toNat n.toNat lo2.toNat (by omega) (by omega) hlo2
  clear c1 c2 hlo hlo2
  have s := shr16 .host mid
  generalize IntOp.shrui .host mid 16#32 = sm at *
  have h1 : (IntOp.addi w4 sm).toNat = w4.toNat + sm.toNat := addN _ _ (by omega)
  generalize IntOp.addi w4 sm = g1 at *
  have h2 : (IntOp.addi g1 d1).toNat = g1.toNat + d1.toNat := addN _ _ (by omega)
  generalize IntOp.addi g1 d1 = g2 at *
  have h3 : (IntOp.addi g2 d2).toNat = g2.toNat + d2.toNat := addN _ _ (by omega)
  generalize IntOp.addi g2 d2 = g3 at *
  have l := shr31 .host lo2
  have hl := lo2.isLt
  rw [shl1_or _ _ _ (by omega) (by omega), l]
  omega

/-- The reference's fixed-point product: the rounded product of the magnitudes, with the accumulator's sign. -/
def refMul (acc m0 : BitVec 32) : BitVec 32 :=
  let neg := IntOp.cmpi .slt acc 0#32
  let r := magnitude (IntOp.absi acc) m0 (Scalar.select neg 1073741823#32 1073741824#32)
  Scalar.select neg (-r) r

/-- It is the product over 2³¹, rounded to the nearest, a half upwards. -/
theorem refMul_toInt (acc m0 : BitVec 32) (hm : 0 ≤ m0.toInt) :
    (refMul acc m0).toInt = (acc.toInt * m0.toInt + 1073741824) / 2147483648 := by
  have hm2 := BitVec.toInt_lt (x := m0)
  have ha1 := BitVec.le_toInt (x := acc)
  have ha2 := BitVec.toInt_lt (x := acc)
  norm_num at hm2 ha1 ha2
  have hmN : (m0.toNat : Int) = m0.toInt := by
    rw [BitVec.toInt_eq_toNat_cond] at hm ⊢
    have := m0.isLt
    split at hm <;> rename_i h <;> simp only [h, if_true, if_false] at * <;> omega
  have b1 : acc.toInt * m0.toInt ≤ 2147483647 * 2147483647 := by nlinarith
  have b2 : -(2147483648 * 2147483647) ≤ acc.toInt * m0.toInt := by nlinarith
  have hac := BitVec.toInt_eq_toNat_cond acc
  have hal := acc.isLt
  unfold refMul
  dsimp only
  by_cases hs : acc.toInt < 0
  · have hc : IntOp.cmpi .slt acc 0#32 = 1#1 := by
      unfold IntOp.cmpi; dsimp only; rw [BitVec.slt]; simp [hs]
    have hu : ((IntOp.absi acc).toNat : Int) = -acc.toInt := by
      unfold IntOp.absi
      rw [show acc.msb = true by rw [BitVec.msb_eq_toInt]; simpa using hs, if_pos rfl, BitVec.toNat_neg]
      split at hac <;> omega
    rw [hc]
    unfold Scalar.select
    rw [if_pos (by decide), if_pos (by decide)]
    have hr := magnitude_toNat (IntOp.absi acc) m0 1073741823#32 (by omega) (by omega) (by decide)
    have hr' : ((magnitude (IntOp.absi acc) m0 1073741823#32).toNat : Int)
        = (-(acc.toInt * m0.toInt) + 1073741823) / 2147483648 := by
      rw [hr]; push_cast
      rw [hu, hmN, show -acc.toInt * m0.toInt = -(acc.toInt * m0.toInt) by ring]
    rw [BitVec.toInt_neg, BitVec.toInt_eq_toNat_bmod, hr', Int.bmod_neg_bmod, Int.bmod_eq_of_le (by omega) (by omega)]
    omega
  · have hc : IntOp.cmpi .slt acc 0#32 = 0#1 := by
      unfold IntOp.cmpi; dsimp only; rw [BitVec.slt]; simp [hs]
    have hu : ((IntOp.absi acc).toNat : Int) = acc.toInt := by
      unfold IntOp.absi
      rw [show acc.msb = false by rw [BitVec.msb_eq_toInt]; simpa using hs, if_neg (by decide)]
      split at hac <;> omega
    rw [hc]
    unfold Scalar.select
    rw [if_neg (by decide), if_neg (by decide)]
    have hr := magnitude_toNat (IntOp.absi acc) m0 1073741824#32 (by omega) (by omega) (by decide)
    have hr' : ((magnitude (IntOp.absi acc) m0 1073741824#32).toNat : Int)
        = (acc.toInt * m0.toInt + 1073741824) / 2147483648 := by
      rw [hr]; push_cast
      rw [hu, hmN]
    rw [BitVec.toInt_eq_toNat_bmod, hr', Int.bmod_eq_of_le (by omega) (by omega)]

end Cert.Requant
-- ==== Proof.Requant.lean ====
module

public import proofs.«01_k».proof.Proof.RefMultiply

@[expose] public section

open Idealize.ShloMosaic

/-! # The two requantisations agree

The kernel's shift, clip and zero point, and the reference's, give the same byte for the same accumulator. -/

namespace Cert.Requant

/-- A signed sum that fits 32 bits does not wrap. -/
theorem addI (x y : BitVec 32) (h1 : -2147483648 ≤ x.toInt + y.toInt) (h2 : x.toInt + y.toInt < 2147483648) :
    (IntOp.addi x y).toInt = x.toInt + y.toInt := by
  show (x + y).toInt = _
  rw [BitVec.toInt_add]; apply Int.bmod_eq_of_le <;> omega

/-- A signed difference that fits 32 bits does not wrap. -/
theorem subI (x y : BitVec 32) (h1 : -2147483648 ≤ x.toInt - y.toInt) (h2 : x.toInt - y.toInt < 2147483648) :
    (IntOp.subi x y).toInt = x.toInt - y.toInt := by
  show (x - y).toInt = _
  rw [BitVec.toInt_sub]; apply Int.bmod_eq_of_le <;> omega

/-- The signed maximum of two words is the maximum of their integers. -/
theorem maxI (x y : BitVec 32) : (IntOp.maxsi x y).toInt = max x.toInt y.toInt := by
  unfold IntOp.maxsi; rw [BitVec.slt]
  by_cases h : y.toInt < x.toInt <;> simp [h] <;> omega

/-- The signed minimum of two words is the minimum of their integers. -/
theorem minI (x y : BitVec 32) : (IntOp.minsi x y).toInt = min x.toInt y.toInt := by
  unfold IntOp.minsi; rw [BitVec.slt]
  by_cases h : x.toInt < y.toInt <;> simp [h] <;> omega

/-- An arithmetic shift right by `k` is floor division by `2 ^ k`. -/
theorem sarI (u : ArithUnit) (x y : BitVec 32) (k : Nat) (hk : y.toNat = k) (h : k < 32) :
    (IntOp.shrsi u x y).toInt = x.toInt / (2 ^ k : Nat) := by
  unfold IntOp.shrsi
  rw [if_pos (by omega), BitVec.toInt_sshiftRight', hk, Int.shiftRight_eq_div_pow]

/-- A word below 2³¹ stands for the same integer signed and unsigned. -/
theorem toInt_of_small (x : BitVec 32) (h : x.toNat < 2147483648) : x.toInt = x.toNat := by
  rw [BitVec.toInt_eq_toNat_bmod]; apply Int.bmod_eq_of_le <;> omega

/-- The sign test of a word, widened, is 1 for a negative word and 0 otherwise. -/
theorem signI (x : BitVec 32) : ((IntOp.cmpi .slt x 0#32).setWidth 32).toInt = if x.toInt < 0 then 1 else 0 := by
  unfold IntOp.cmpi; dsimp only; rw [BitVec.slt]
  by_cases h : x.toInt < 0 <;> simp [h]

/-- The signed comparison of two words, widened, is 1 where the first is the greater and 0 otherwise. -/
theorem sgtI (x y : BitVec 32) :
    ((IntOp.cmpi .sgt x y).setWidth 32).toInt = if y.toInt < x.toInt then 1 else 0 := by
  unfold IntOp.cmpi; dsimp only; rw [BitVec.slt]
  by_cases h : y.toInt < x.toInt <;> simp [h]

/-- Dividing by `N` and then by two rounds as the reference's remainder test does: with `H = 2 N a + r`, one less
    below zero, the quotient by `N` is `2 a` plus the place of the remainder. -/
theorem quotient (H N a r s : Int) (hN : 0 < N) (hr0 : 0 ≤ r) (hr1 : r < 2 * N) (hH : H = 2 * N * a + r)
    (hs : s = 0 ∨ s = -1) : ((H + s) / N + 1) / 2 = a + if N ≤ r + s then 1 else 0 := by
  have key : ∀ d : Int, 0 ≤ r + s - N * d → r + s - N * d < N → (H + s) / N = 2 * a + d := by
    intro d h1 h2
    rw [show H + s = (r + s - N * d) + N * (2 * a + d) by rw [hH]; ring, Int.add_mul_ediv_left _ _ (by omega),
      Int.ediv_eq_zero_of_lt h1 h2, Int.zero_add]
  by_cases h1 : N ≤ r + s
  · rw [if_pos h1, key 1 (by omega) (by omega)]; omega
  · by_cases h2 : 0 ≤ r + s
    · rw [if_neg h1, key 0 (by omega) (by omega)]; omega
    · rw [if_neg h1, key (-1) (by omega) (by omega)]; omega

/-- Clipping around the zero point and halving is halving, adding the zero point and clipping. -/
theorem clip (q y : Int) : (min (255 - (2 * y + 1)) (max (-256 - (2 * y + 1)) q) + (2 * y + 1)) / ((2 ^ 1 : Nat) : Int)
    = min 127 (max (-128) ((q + 1) / 2 + y)) := by
  norm_num
  omega

/-- The clipped quotient with the kernel's constant added back stays within 32 bits. -/
theorem clip_bounds (q y : Int) (h1 : -2147483648 ≤ q) (h2 : q ≤ 2147483647) (h3 : -1073741824 ≤ y)
    (h4 : y ≤ 1073741823) :
    -2147483648 ≤ min (255 - (2 * y + 1)) (max (-256 - (2 * y + 1)) q) + (2 * y + 1)
      ∧ min (255 - (2 * y + 1)) (max (-256 - (2 * y + 1)) q) + (2 * y + 1) < 2147483648 := by
  constructor <;> omega

/-- The clipped and halved quotient is the clipped sum, for words whose integers are given. -/
theorem final (q c y out : BitVec 32) (h1 : -2147483648 ≤ q.toInt) (h2 : q.toInt ≤ 2147483647)
    (h3 : -1073741824 ≤ y.toInt) (h4 : y.toInt ≤ 1073741823) (hc : c.toInt = 2 * y.toInt + 1)
    (hhi : (IntOp.subi 255#32 c).toInt = 255 - c.toInt) (hlo : (IntOp.subi 4294967040#32 c).toInt = -256 - c.toInt)
    (hoy : (IntOp.addi out y).toInt = (q.toInt + 1) / 2 + y.toInt) :
    (IntOp.shrsi .vector (IntOp.addi (IntOp.minsi (IntOp.subi 255#32 c) (IntOp.maxsi (IntOp.subi 4294967040#32 c) q)) c)
      1#32).toInt = (IntOp.minsi 127#32 (IntOp.maxsi 4294967168#32 (IntOp.addi out y))).toInt := by
  have hb := clip_bounds q.toInt y.toInt h1 h2 h3 h4
  have hm : (IntOp.minsi (IntOp.subi 255#32 c) (IntOp.maxsi (IntOp.subi 4294967040#32 c) q)).toInt
      = min (255 - (2 * y.toInt + 1)) (max (-256 - (2 * y.toInt + 1)) q.toInt) := by
    rw [minI, maxI, hhi, hlo, hc]
  have hs : (IntOp.addi (IntOp.minsi (IntOp.subi 255#32 c) (IntOp.maxsi (IntOp.subi 4294967040#32 c) q)) c).toInt
      = min (255 - (2 * y.toInt + 1)) (max (-256 - (2 * y.toInt + 1)) q.toInt) + (2 * y.toInt + 1) := by
    rw [addI _ _ (by rw [hm, hc]; exact hb.1) (by rw [hm, hc]; exact hb.2), hm, hc]
  rw [sarI .vector _ 1#32 1 rfl (by decide), hs, clip, minI, maxI, hoy]
  rfl

/-- The kernel's requantisation of one accumulator word. -/
def kernelOut (acc m0 e y : BitVec 32) : BitVec 8 :=
  let h := kernelMul acc m0
  let q := IntOp.shrsi .vector (IntOp.addi h (IntOp.shrsi .vector h 31#32)) (IntOp.subi e 1#32)
  let c := IntOp.addi (IntOp.muli 2#32 y) 1#32
  (IntOp.shrsi .vector (IntOp.addi (IntOp.minsi (IntOp.subi 255#32 c)
    (IntOp.maxsi (IntOp.subi 4294967040#32 c) q)) c) 1#32).setWidth 8

/-- The reference's requantisation of one accumulator word. -/
def refOut (acc m0 e y : BitVec 32) : BitVec 8 :=
  let h := refMul acc m0
  let mask := IntOp.subi (IntOp.shli .host 1#32 e) 1#32
  let thr := IntOp.addi (IntOp.shrsi .host mask 1#32) ((IntOp.cmpi .slt h 0#32).setWidth 32)
  let out := IntOp.addi (IntOp.shrsi .host h e) ((IntOp.cmpi .sgt (IntOp.andi h mask) thr).setWidth 32)
  (IntOp.minsi 127#32 (IntOp.maxsi 4294967168#32 (IntOp.addi out y))).setWidth 8

/-- The kernel's fixed-point product is the reference's. -/
theorem kernelMul_eq (acc m0 : BitVec 32) (hm : 0 ≤ m0.toInt) : kernelMul acc m0 = refMul acc m0 :=
  BitVec.eq_of_toInt_eq (by rw [kernelMul_toInt _ _ hm, refMul_toInt _ _ hm])

/-- The two requantisations agree, for a multiplier that is not negative, a shift from 1 to 31, and an output zero
    point whose double stays clear of the word's ends. -/
theorem kernelOut_eq (acc m0 e y : BitVec 32) (hm : 0 ≤ m0.toInt) (he1 : 1 ≤ e.toInt) (he2 : e.toInt ≤ 31)
    (hy1 : -1073741696 ≤ y.toInt) (hy2 : y.toInt ≤ 1073741695) : kernelOut acc m0 e y = refOut acc m0 e y := by
  unfold kernelOut refOut
  dsimp only
  rw [kernelMul_eq _ _ hm]
  have hH := refMul_toInt acc m0 hm
  have b1 : acc.toInt * m0.toInt ≤ 2147483647 * 2147483647 := by
    have := BitVec.toInt_lt (x := m0)
    have := BitVec.toInt_lt (x := acc)
    norm_num at *
    nlinarith
  have b2 : -(2147483648 * 2147483647) ≤ acc.toInt * m0.toInt := by
    have := BitVec.toInt_lt (x := m0)
    have := BitVec.le_toInt (x := acc)
    norm_num at *
    nlinarith
  have hH1 : -2147483647 ≤ (refMul acc m0).toInt := by omega
  have hH2 : (refMul acc m0).toInt ≤ 2147483647 := by omega
  clear hH b1 b2
  generalize refMul acc m0 = h at *
  -- the shift, as a number
  have heN : (e.toNat : Int) = e.toInt := by
    have hc := BitVec.toInt_eq_toNat_cond e
    have := e.isLt
    split at hc <;> omega
  obtain ⟨k, hk⟩ : ∃ k : Nat, e.toNat = k + 1 := ⟨e.toNat - 1, by omega⟩
  have hk30 : k ≤ 30 := by omega
  have he' : (IntOp.subi e 1#32).toNat = k := by
    show (e - 1#32).toNat = k
    rw [BitVec.toNat_sub]
    show (2 ^ 32 - 1 + e.toNat) % 2 ^ 32 = k
    omega
  obtain ⟨N, hNdef⟩ : ∃ N : Nat, N = 2 ^ k := ⟨_, rfl⟩
  have hN0 : 0 < N := hNdef ▸ Nat.two_pow_pos k
  have hN1 : N ≤ 1073741824 := hNdef ▸ Nat.pow_le_pow_right (by decide) hk30
  have h2N : 2 ^ (k + 1) = 2 * N := by rw [hNdef, Nat.pow_succ, Nat.mul_comm]
  have hdvd : (2 * (N : Int)) ∣ 4294967296 := by
    have : (2 * N) ∣ 2 ^ 32 := h2N ▸ Nat.pow_dvd_pow 2 (by omega)
    exact_mod_cast this
  -- the reference's mask and remainder
  have hmask : (IntOp.subi (IntOp.shli .host 1#32 e) 1#32).toNat = 2 * N - 1 := by
    have hs : (IntOp.shli .host 1#32 e).toNat = 2 * N := by
      unfold IntOp.shli
      rw [if_pos (by omega)]
      show (1#32 <<< e.toNat).toNat = _
      rw [BitVec.toNat_shiftLeft, Nat.shiftLeft_eq, hk, h2N]
      show 1 * (2 * N) % 2 ^ 32 = _
      omega
    show (IntOp.shli .host 1#32 e - 1#32).toNat = _
    rw [BitVec.toNat_sub, hs]
    show (2 ^ 32 - 1 + 2 * N) % 2 ^ 32 = _
    omega
  have hrem : (IntOp.andi h (IntOp.subi (IntOp.shli .host 1#32 e) 1#32)).toInt = h.toInt % (2 * N) := by
    have hn : (IntOp.andi h (IntOp.subi (IntOp.shli .host 1#32 e) 1#32)).toNat = h.toNat % (2 * N) := by
      show (h &&& _).toNat = _
      rw [BitVec.toNat_and, hmask, ← h2N]
      exact Nat.and_two_pow_sub_one_eq_mod h.toNat (k + 1)
    have hlt : h.toNat % (2 * N) < 2 * N := Nat.mod_lt _ (by omega)
    rw [toInt_of_small _ (by omega), hn]
    push_cast
    have hc := BitVec.toInt_eq_toNat_cond h
    split at hc
    · rw [hc]
    · obtain ⟨M, hM⟩ := hdvd
      rw [hc, show (h.toNat : Int) - ((2 ^ 32 : Nat) : Int) = h.toNat - 2 * N * M by rw [← hM]; norm_num,
        Int.sub_mul_emod_self_left]
  generalize hmw : IntOp.subi (IntOp.shli .host 1#32 e) 1#32 = mask at *
  have hmaskI : mask.toInt = 2 * N - 1 := by rw [toInt_of_small _ (by omega), hmask]; omega
  have hms : (IntOp.shrsi .host mask 1#32).toInt = N - 1 := by
    rw [sarI _ _ _ 1 rfl (by decide), hmaskI]
    omega
  have hsg := signI h
  generalize (IntOp.cmpi .slt h 0#32).setWidth 32 = sg at *
  have hthr : (IntOp.addi (IntOp.shrsi .host mask 1#32) sg).toInt = N - 1 + if h.toInt < 0 then 1 else 0 := by
    rw [addI _ _ (by rw [hms, hsg]; split <;> omega) (by rw [hms, hsg]; split <;> omega), hms, hsg]
  have hgt := sgtI (IntOp.andi h mask) (IntOp.addi (IntOp.shrsi .host mask 1#32) sg)
  rw [hthr, hrem] at hgt
  generalize (IntOp.cmpi .sgt (IntOp.andi h mask) (IntOp.addi (IntOp.shrsi .host mask 1#32) sg)).setWidth 32 = gt at *
  have hsh : (IntOp.shrsi .host h e).toInt = h.toInt / (2 * N) := by
    rw [sarI _ _ _ (k + 1) hk (by omega), h2N]
    push_cast
    rfl
  -- the kernel's quotient
  have hs31 : (IntOp.shrsi .vector h 31#32).toInt = if h.toInt < 0 then -1 else 0 := by
    rw [sarI _ _ _ 31 rfl (by decide)]
    split <;> omega
  have hg : (IntOp.addi h (IntOp.shrsi .vector h 31#32)).toInt = h.toInt + if h.toInt < 0 then -1 else 0 := by
    rw [addI _ _ (by rw [hs31]; split <;> omega) (by rw [hs31]; split <;> omega), hs31]
  have hq : (IntOp.shrsi .vector (IntOp.addi h (IntOp.shrsi .vector h 31#32)) (IntOp.subi e 1#32)).toInt
      = (h.toInt + if h.toInt < 0 then -1 else 0) / N := by
    rw [sarI _ _ _ k he' (by omega), hg, hNdef]
  generalize IntOp.shrsi .vector (IntOp.addi h (IntOp.shrsi .vector h 31#32)) (IntOp.subi e 1#32) = q at *
  have hdm := Int.mul_ediv_add_emod h.toInt (2 * N)
  have hm0 := Int.emod_nonneg h.toInt (by omega : (2 * N : Int) ≠ 0)
  have hm1 := Int.emod_lt_of_pos h.toInt (by omega : (0 : Int) < 2 * N)
  have hquot := quotient h.toInt N (h.toInt / (2 * N)) (h.toInt % (2 * N)) (if h.toInt < 0 then -1 else 0)
    (by omega) hm0 hm1 (by omega) (by split <;> simp)
  rw [← hq] at hquot
  have hout : (q.toInt + 1) / 2 = (IntOp.shrsi .host h e).toInt + gt.toInt := by
    rw [hquot, hsh, hgt]
    split <;> split <;> split <;> omega
  have hqb : -2147483648 ≤ q.toInt ∧ q.toInt ≤ 2147483647 := by
    have := BitVec.le_toInt (x := q)
    have := BitVec.toInt_lt (x := q)
    norm_num at *
    omega
  clear hquot hq hgt hrem hsh hdm hm0 hm1
  generalize IntOp.shrsi .host h e = sh at *
  have ho : (IntOp.addi sh gt).toInt = (q.toInt + 1) / 2 := by
    rw [addI _ _ (by omega) (by omega), hout]
  generalize IntOp.addi sh gt = out at *
  have hoy : (IntOp.addi out y).toInt = (q.toInt + 1) / 2 + y.toInt := by
    rw [addI _ _ (by omega) (by omega), ho]
  have hc : (IntOp.addi (IntOp.muli 2#32 y) 1#32).toInt = 2 * y.toInt + 1 := by
    have h2 : (IntOp.muli 2#32 y).toInt = 2 * y.toInt := by
      show (2#32 * y).toInt = _
      rw [BitVec.toInt_mul, show (2#32).toInt = 2 from rfl]
      apply Int.bmod_eq_of_le <;> omega
    have h1 : (1#32).toInt = 1 := rfl
    rw [addI _ _ (by omega) (by omega), h2, h1]
  generalize IntOp.addi (IntOp.muli 2#32 y) 1#32 = c at *
  have k255 : (255#32).toInt = 255 := rfl
  have k256 : (4294967040#32).toInt = -256 := rfl
  have k127 : (127#32).toInt = 127 := rfl
  have k128 : (4294967168#32).toInt = -128 := rfl
  have hhi : (IntOp.subi 255#32 c).toInt = 255 - c.toInt := by rw [subI _ _ (by omega) (by omega), k255]
  have hlo : (IntOp.subi 4294967040#32 c).toInt = -256 - c.toInt := by rw [subI _ _ (by omega) (by omega), k256]
  exact congrArg (BitVec.setWidth 8) (BitVec.eq_of_toInt_eq
    (final q c y out (by omega) hqb.2 (by omega) (by omega) hc hhi hlo hoy))

end Cert.Requant
-- ==== Proof.KernelBlock.lean ====
module

public import proofs.«01_k».proof.Proof.Gen.KernelIdeal.Run
public import proofs.«01_k».proof.Proof.Requant
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! # What the kernel's body stores at one grid point -/

namespace Cert.KernelIdeal.Block

open Cert.KernelIdeal Cert.KernelIdeal.Gen

variable {F : FTy → Type} [FloatOps F]

/-- The offsets `![0, 0]` are zero on both axes. -/
theorem hz : (![0, 0] : Fin 2 → Nat) = fun _ => 0 := funext fun a => by fin_cases a <;> rfl

/-- The offset `![0]` is zero. -/
theorem hz1 : (![0] : Fin 1 → Nat) = fun _ => 0 := funext fun a => by fin_cases a <;> rfl

/-- The first index of a one-entry array is index 0. -/
theorem first_eq (h) : (Shape.Idx.first h : S1.Idx) = ix1 0 := by
  funext a
  match a with
  | ⟨0, _⟩ => exact Subsingleton.elim (α := Fin 1) _ _

/-- Reading the one word of a one-entry array. -/
theorem ld_word (x : Vec F S1 .i32) : View.ld x (Rect.unit ![0] ![1] inb_S1_S1_0) (ix1 0) = x (ix1 0) :=
  congrFun (View.ld_unit_zero (S := S1) hz1 inb_S1_S1_0 x) (ix1 0)

/-- The block the body stores: the requantised product of the carried activations `xs` with the weight block. -/
def stored (y : BitVec 32) (w : Vec F S1440x1280 .i8) (b m0 e : Vec F S1x1280 .i32) (xs : Vec F S128x2880 .bf16) :
    IVec S128x1280 8 :=
  k0_pay1 (Scalar.addi (Scalar.muli 2#32 y) 1#32)
    (k0_pay9 (F := F) (k0_pay3 m0) (k0_pay4 e) y (k0_pay5 m0) (k0_pay6 w xs b) (k0_pay7 w xs b) k0_pay8)

/-- At a later grid point the body stores the block computed from the activations that the scratch carries. -/
theorem out_B (c : Dev nD) (i : grid0.Coords) (arg1 : Memref sig .tc .smem S1 .i32) (harg1 : arg1.IsWhole) (arg2 : Memref sig .tc .smem S1 .i32) (harg2 : arg2.IsWhole) (arg3 : Memref sig .tc .vmem S128x2880 .i8) (harg3 : arg3.IsWhole) (arg4 : Memref sig .tc .vmem S1440x1280 .i8) (harg4 : arg4.IsWhole) (arg5 : Memref sig .tc .vmem S1x1280 .i32) (harg5 : arg5.IsWhole) (arg6 : Memref sig .tc .vmem S1x1280 .i32) (harg6 : arg6.IsWhole) (arg7 : Memref sig .tc .vmem S1x1280 .i32) (harg7 : arg7.IsWhole) (arg8 : Memref sig .tc .vmem S128x1280 .i8) (harg8 : arg8.IsWhole) (arg9 : Memref sig .tc .vmem S128x2880 .bf16) (harg9 : arg9.IsWhole) (hc0 : ¬cond0_0 i)
    (x0 : Vec F S1 .i32) (x1 : Vec F S1 .i32) (x2 : Vec F S128x2880 .i8) (x3 : Vec F S1440x1280 .i8) (x4 : Vec F S1x1280 .i32) (x5 : Vec F S1x1280 .i32) (x6 : Vec F S1x1280 .i32) (xs0 : Vec F S128x2880 .bf16) :
    out0_B_7 c i arg1 harg1 arg2 harg2 arg3 harg3 arg4 harg4 arg5 harg5 arg6 harg6 arg7 harg7 arg8 harg8 arg9 harg9 hc0 x0 x1 x2 x3 x4 x5 x6 xs0
      = stored (x1 (ix1 0)) x3 x4 x5 x6 xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  rw [View.canon_unit_zero hz]
  unfold stored
  simp only [View.readAt_eq_ld, harg2.read_unread, harg4.read_unread, harg5.read_unread, harg6.read_unread,
    harg7.read_unread, harg9.read_unread, View.ld_unit_zero (S := S1x1280) hz, View.ld_unit_zero (S := S1440x1280) hz,
    View.ld_unit_zero (S := S128x2880) hz, first_eq]
  erw [ld_word x1]

/-- At the first grid point the body stores the block computed from the activations less their zero point. -/
theorem out_A (c : Dev nD) (i : grid0.Coords) (arg1 : Memref sig .tc .smem S1 .i32) (harg1 : arg1.IsWhole) (arg2 : Memref sig .tc .smem S1 .i32) (harg2 : arg2.IsWhole) (arg3 : Memref sig .tc .vmem S128x2880 .i8) (harg3 : arg3.IsWhole) (arg4 : Memref sig .tc .vmem S1440x1280 .i8) (harg4 : arg4.IsWhole) (arg5 : Memref sig .tc .vmem S1x1280 .i32) (harg5 : arg5.IsWhole) (arg6 : Memref sig .tc .vmem S1x1280 .i32) (harg6 : arg6.IsWhole) (arg7 : Memref sig .tc .vmem S1x1280 .i32) (harg7 : arg7.IsWhole) (arg8 : Memref sig .tc .vmem S128x1280 .i8) (harg8 : arg8.IsWhole) (arg9 : Memref sig .tc .vmem S128x2880 .bf16) (harg9 : arg9.IsWhole) (hc0 : cond0_0 i)
    (x0 : Vec F S1 .i32) (x1 : Vec F S1 .i32) (x2 : Vec F S128x2880 .i8) (x3 : Vec F S1440x1280 .i8) (x4 : Vec F S1x1280 .i32) (x5 : Vec F S1x1280 .i32) (x6 : Vec F S1x1280 .i32) :
    out0_A_7 c i arg1 harg1 arg2 harg2 arg3 harg3 arg4 harg4 arg5 harg5 arg6 harg6 arg7 harg7 arg8 harg8 arg9 harg9 hc0 x0 x1 x2 x3 x4 x5 x6
      = stored (x1 (ix1 0)) x3 x4 x5 x6 (k0_pay2 x2 (x0 (ix1 0))) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz]
  unfold stored
  rw [View.readCov_unit_zero (S := S128x2880) _ hz]
  simp only [View.readAt_eq_ld, harg1.read_unread, harg2.read_unread, harg3.read_unread, harg4.read_unread, harg5.read_unread, harg6.read_unread,
    harg7.read_unread, View.ld_unit_zero (S := S1x1280) hz, View.ld_unit_zero (S := S1440x1280) hz,
    View.ld_unit_zero (S := S128x2880) hz, first_eq]
  erw [ld_word x1, ld_word x0]

/-- At the first grid point the body leaves the activations less their zero point in the scratch. -/
theorem scratch_A (c : Dev nD) (i : grid0.Coords) (arg1 : Memref sig .tc .smem S1 .i32) (harg1 : arg1.IsWhole) (arg2 : Memref sig .tc .smem S1 .i32) (harg2 : arg2.IsWhole) (arg3 : Memref sig .tc .vmem S128x2880 .i8) (harg3 : arg3.IsWhole) (arg4 : Memref sig .tc .vmem S1440x1280 .i8) (harg4 : arg4.IsWhole) (arg5 : Memref sig .tc .vmem S1x1280 .i32) (harg5 : arg5.IsWhole) (arg6 : Memref sig .tc .vmem S1x1280 .i32) (harg6 : arg6.IsWhole) (arg7 : Memref sig .tc .vmem S1x1280 .i32) (harg7 : arg7.IsWhole) (arg8 : Memref sig .tc .vmem S128x1280 .i8) (harg8 : arg8.IsWhole) (arg9 : Memref sig .tc .vmem S128x2880 .bf16) (harg9 : arg9.IsWhole) (hc0 : cond0_0 i)
    (x0 : Vec F S1 .i32) (x1 : Vec F S1 .i32) (x2 : Vec F S128x2880 .i8) (x3 : Vec F S1440x1280 .i8) (x4 : Vec F S1x1280 .i32) (x5 : Vec F S1x1280 .i32) (x6 : Vec F S1x1280 .i32) :
    sout0_A_0 c i arg1 harg1 arg2 harg2 arg3 harg3 arg4 harg4 arg5 harg5 arg6 harg6 arg7 harg7 arg8 harg8 arg9 harg9 hc0 x0 x1 x2 x3 x4 x5 x6
      = (k0_pay2 x2 (x0 (ix1 0))) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, View.ld_unit_zero (S := S1x1280) hz, View.ld_unit_zero (S := S1440x1280) hz,
    View.ld_unit_zero (S := S128x2880) hz, first_eq]
  erw [ld_word x0]

end Cert.KernelIdeal.Block
-- ==== Proof.KernelArray.lean ====
module

public import proofs.«01_k».proof.Proof.KernelBlock

@[expose] public section

set_option maxRecDepth 16384

noncomputable section

open Idealize.ShloMosaic Idealize.ShloMosaic.TcCoe Idealize.SL.Sem Idealize.ShloMosaic.StableHlo
open Idealize.ShloMosaic.Pipeline (Dat)

/-! # The array that the kernel leaves

What each grid point reads, what the scratch carries from the first point on, and the array that the blocks make up. -/

namespace Cert.KernelIdeal.Block

open Cert.KernelIdeal Cert.KernelIdeal.Gen

variable {F : FTy → Type} [FloatOps F]
variable (m : (ℓ : Loc nD τ sig) → Buf (Elt F) ℓ)

/-- The activations' zero point, as the region finds it. -/
theorem V_v0 (c : Dev nD) : V m c main_v0 = shapeCast S1 (m ((c : Thread nD τ).loc main_arg1)) shapeCasts_S_S1 := by
  show after (List.flatten [hostOps0]) (fun b => m (c, b)) (Proc.devRef .tc main_v0) = _
  simp only [hostOps0, List.flatten_cons, List.flatten_nil, List.append_nil, List.cons_append, List.nil_append]
  after_results <;> rfl

/-- The result's zero point, as the region finds it. -/
theorem V_v1 (c : Dev nD) : V m c main_v1 = shapeCast S1 (m ((c : Thread nD τ).loc main_arg6)) shapeCasts_S_S1 := by
  show after (List.flatten [hostOps0]) (fun b => m (c, b)) (Proc.devRef .tc main_v1) = _
  simp only [hostOps0, List.flatten_cons, List.flatten_nil, List.append_nil, List.cons_append, List.nil_append]
  after_results <;> rfl

/-- The activations, as the region finds them: one matrix. -/
theorem V_v2 (c : Dev nD) : V m c main_v2
    = shapeCast S128x2880 (m ((c : Thread nD τ).loc main_arg0)) shapeCasts_S1x128x2880_S128x2880 := by
  show after (List.flatten [hostOps0]) (fun b => m (c, b)) (Proc.devRef .tc main_v2) = _
  simp only [hostOps0, List.flatten_cons, List.flatten_nil, List.append_nil, List.cons_append, List.nil_append]
  after_results <;> rfl

/-- The bias, as the region finds it: one row. -/
theorem V_v3 (c : Dev nD) : V m c main_v3
    = shapeCast S1x23040 (m ((c : Thread nD τ).loc main_arg3)) shapeCasts_S23040_S1x23040 := by
  show after (List.flatten [hostOps0]) (fun b => m (c, b)) (Proc.devRef .tc main_v3) = _
  simp only [hostOps0, List.flatten_cons, List.flatten_nil, List.append_nil, List.cons_append, List.nil_append]
  after_results <;> rfl

/-- The multipliers, as the region finds them: one row. -/
theorem V_v4 (c : Dev nD) : V m c main_v4
    = shapeCast S1x23040 (m ((c : Thread nD τ).loc main_arg4)) shapeCasts_S23040_S1x23040 := by
  show after (List.flatten [hostOps0]) (fun b => m (c, b)) (Proc.devRef .tc main_v4) = _
  simp only [hostOps0, List.flatten_cons, List.flatten_nil, List.append_nil, List.cons_append, List.nil_append]
  after_results <;> rfl

/-- The shifts, as the region finds them: one row. -/
theorem V_v5 (c : Dev nD) : V m c main_v5
    = shapeCast S1x23040 (m ((c : Thread nD τ).loc main_arg5)) shapeCasts_S23040_S1x23040 := by
  show after (List.flatten [hostOps0]) (fun b => m (c, b)) (Proc.devRef .tc main_v5) = _
  simp only [hostOps0, List.flatten_cons, List.flatten_nil, List.append_nil, List.cons_append, List.nil_append]
  after_results <;> rfl

/-- The block of the activations' zero point is the same at every grid point. -/
theorem index_0 : ∀ t : Fin cfg0.N, win0_0.index t 0 = 0 := by decide +kernel

/-- The block of the result's zero point is the same at every grid point. -/
theorem index_1 : ∀ t : Fin cfg0.N, win0_1.index t 0 = 0 := by decide +kernel

/-- The block of the activations is the same at every grid point. -/
theorem index_2 : ∀ t : Fin cfg0.N, win0_2.index t 0 = 0 ∧ win0_2.index t 1 = 0 := by decide +kernel

/-- Grid point `t` takes block column `t` of the packed weights. -/
theorem index_3 : ∀ t : Fin cfg0.N, win0_3.index t 0 = 0 ∧ win0_3.index t 1 = t.val := by decide +kernel

/-- Grid point `t` takes block column `t` of the bias. -/
theorem index_4 : ∀ t : Fin cfg0.N, win0_4.index t 0 = 0 ∧ win0_4.index t 1 = t.val := by decide +kernel

/-- Grid point `t` takes block column `t` of the multipliers. -/
theorem index_5 : ∀ t : Fin cfg0.N, win0_5.index t 0 = 0 ∧ win0_5.index t 1 = t.val := by decide +kernel

/-- Grid point `t` takes block column `t` of the shifts. -/
theorem index_6 : ∀ t : Fin cfg0.N, win0_6.index t 0 = 0 ∧ win0_6.index t 1 = t.val := by decide +kernel

/-- Grid point `t` writes block column `t` of the result. -/
theorem index_7 : ∀ t : Fin cfg0.N, win0_7.index t 0 = 0 ∧ win0_7.index t 1 = t.val := by decide +kernel

/-- There are 18 grid points. -/
theorem lt18 (t : Fin cfg0.N) : t.val < 18 := lt_of_lt_of_eq t.isLt N_0

/-- Column `j` of block `t` is column `1280 t + j` of the array. -/
def col (t : Fin cfg0.N) (j : Fin 1280) : Fin 23040 := ⟨t.val * 1280 + j.val, by have := lt18 t; have := j.isLt; omega⟩

/-- The activations' zero point, as every grid point reads it. -/
theorem iblk_0 (c : Dev nD) (t : Fin cfg0.N) : (iblk m c 0 t : Vec F S1 .i32) (ix1 0)
    = m ((c : Thread nD τ).loc main_arg1) ix0 := by
  unfold iblk
  rw [View.read_apply]
  show V m c main_v0 _ = _
  rw [V_v0]
  exact congrArg (m ((c : Thread nD τ).loc main_arg1)) (funext fun a => a.elim0)

/-- The result's zero point, as every grid point reads it. -/
theorem iblk_1 (c : Dev nD) (t : Fin cfg0.N) : (iblk m c 1 t : Vec F S1 .i32) (ix1 0)
    = m ((c : Thread nD τ).loc main_arg6) ix0 := by
  unfold iblk
  rw [View.read_apply]
  show V m c main_v1 _ = _
  rw [V_v1]
  exact congrArg (m ((c : Thread nD τ).loc main_arg6)) (funext fun a => a.elim0)

/-- The activations, as every grid point reads them: the whole matrix. -/
theorem iblk_2 (c : Dev nD) (t : Fin cfg0.N) : (iblk m c 2 t : Vec F S128x2880 .i8)
    = shapeCast S128x2880 (m ((c : Thread nD τ).loc main_arg0)) shapeCasts_S1x128x2880_S128x2880 := by
  rw [← V_v2]
  funext j
  unfold iblk
  rw [View.read_apply]
  show V m c main_v2 _ = V m c main_v2 _
  congr 1
  funext a
  apply Fin.ext
  match a with
  | ⟨0, _⟩ => show win0_2.index t 0 * 128 + 1 * (j 0).val = (j 0).val; rw [(index_2 t).1]; omega
  | ⟨1, _⟩ => show win0_2.index t 1 * 2880 + 1 * (j 1).val = (j 1).val; rw [(index_2 t).2]; omega

/-- The block of packed weights at grid point `t`: columns `1280 t` and on of the argument. -/
theorem iblk_3 (c : Dev nD) (t : Fin cfg0.N) (p : Fin 1440) (j : Fin 1280) :
    (iblk m c 3 t : Vec F S1440x1280 .i8) (ix2 p j) = m ((c : Thread nD τ).loc main_arg2) (ix2 p (col t j)) := by
  rw [← V_main_arg2 m c]
  unfold iblk
  rw [View.read_apply]
  show V m c main_arg2 _ = V m c main_arg2 _
  congr 1
  funext a
  apply Fin.ext
  match a with
  | ⟨0, _⟩ => show win0_3.index t 0 * 1440 + 1 * p.val = p.val; rw [(index_3 t).1]; omega
  | ⟨1, _⟩ => show win0_3.index t 1 * 1280 + 1 * j.val = t.val * 1280 + j.val; rw [(index_3 t).2]; omega

/-- A vector laid out as one row, entry by entry. -/
theorem row_cast (x : Vec F S23040 .i32) (n : Fin 23040) :
    shapeCast S1x23040 x shapeCasts_S23040_S1x23040 (ix2 0 n) = x (ix1 n) := by
  pointwise

/-- The block of the bias at grid point `t`. -/
theorem iblk_4 (c : Dev nD) (t : Fin cfg0.N) (j : Fin 1280) :
    (iblk m c 4 t : Vec F S1x1280 .i32) (ix2 0 j) = m ((c : Thread nD τ).loc main_arg3) (ix1 (col t j)) := by
  rw [← row_cast (m ((c : Thread nD τ).loc main_arg3)) (col t j), ← V_v3]
  unfold iblk
  rw [View.read_apply]
  show V m c main_v3 _ = V m c main_v3 _
  congr 1
  funext a
  apply Fin.ext
  match a with
  | ⟨0, _⟩ => show win0_4.index t 0 * 1 + 1 * 0 = 0; rw [(index_4 t).1]
  | ⟨1, _⟩ => show win0_4.index t 1 * 1280 + 1 * j.val = t.val * 1280 + j.val; rw [(index_4 t).2]; omega

/-- The block of the multipliers at grid point `t`. -/
theorem iblk_5 (c : Dev nD) (t : Fin cfg0.N) (j : Fin 1280) :
    (iblk m c 5 t : Vec F S1x1280 .i32) (ix2 0 j) = m ((c : Thread nD τ).loc main_arg4) (ix1 (col t j)) := by
  rw [← row_cast (m ((c : Thread nD τ).loc main_arg4)) (col t j), ← V_v4]
  unfold iblk
  rw [View.read_apply]
  show V m c main_v4 _ = V m c main_v4 _
  congr 1
  funext a
  apply Fin.ext
  match a with
  | ⟨0, _⟩ => show win0_5.index t 0 * 1 + 1 * 0 = 0; rw [(index_5 t).1]
  | ⟨1, _⟩ => show win0_5.index t 1 * 1280 + 1 * j.val = t.val * 1280 + j.val; rw [(index_5 t).2]; omega

/-- The block of the shifts at grid point `t`. -/
theorem iblk_6 (c : Dev nD) (t : Fin cfg0.N) (j : Fin 1280) :
    (iblk m c 6 t : Vec F S1x1280 .i32) (ix2 0 j) = m ((c : Thread nD τ).loc main_arg5) (ix1 (col t j)) := by
  rw [← row_cast (m ((c : Thread nD τ).loc main_arg5)) (col t j), ← V_v5]
  unfold iblk
  rw [View.read_apply]
  show V m c main_v5 _ = V m c main_v5 _
  congr 1
  funext a
  apply Fin.ext
  match a with
  | ⟨0, _⟩ => show win0_6.index t 0 * 1 + 1 * 0 = 0; rw [(index_6 t).1]
  | ⟨1, _⟩ => show win0_6.index t 1 * 1280 + 1 * j.val = t.val * 1280 + j.val; rw [(index_6 t).2]; omega

/-- The activations as the first point leaves them in the scratch: less their zero point, as floats. -/
def acts (c : Dev nD) : Vec F S128x2880 .bf16 :=
  k0_pay2 (shapeCast S128x2880 (m ((c : Thread nD τ).loc main_arg0)) shapeCasts_S1x128x2880_S128x2880)
    (m ((c : Thread nD τ).loc main_arg1) ix0)

/-- The first point fills the scratch with the activations. -/
theorem scratch_first (c : Dev nD) (t : Fin cfg0.N) (h0 : t.val % 18 = 0) :
    (outsAt0 m c t.val t.isLt).2 = acts m c := by
  rw [outsAt0_A m c t h0]
  dsimp only
  rw [scratch_A, iblk_0]
  exact congrArg (k0_pay2 · _) (iblk_2 m c t)

/-- Every later point leaves it as it was. -/
theorem scratch_kept (c : Dev nD) (t : Fin cfg0.N) (h0 : ¬t.val % 18 = 0) :
    (outsAt0 m c t.val t.isLt).2 = (outsAt0 m c (t.val - 1) (by have := t.isLt; omega)).2 := by
  rw [outsAt0_B m c t h0]
  rfl

/-- The scratch holds the activations after every point. -/
theorem scratch_eq (c : Dev nD) (n : ℕ) : ∀ h : n < cfg0.N, (outsAt0 m c n h).2 = acts m c := by
  induction n with
  | zero => exact fun h => scratch_first m c ⟨0, h⟩ rfl
  | succ n ih =>
    intro h
    have hN : cfg0.N = 18 := N_0
    have hB : ¬(⟨n + 1, h⟩ : Fin cfg0.N).val % 18 = 0 := by dsimp only; omega
    exact (scratch_kept m c ⟨n + 1, h⟩ hB).trans (ih (Nat.lt_of_succ_lt h))

/-- What the body leaves in the output's buffer at point `t`. -/
theorem out_eq (c : Dev nD) (t : Fin cfg0.N) : (outsAt0 m c t.val t.isLt).1
    = stored (m ((c : Thread nD τ).loc main_arg6) ix0) (iblk m c 3 t) (iblk m c 4 t) (iblk m c 5 t) (iblk m c 6 t)
        (acts m c) := by
  by_cases h0 : t.val % 18 = 0
  · rw [outsAt0_A m c t h0]
    dsimp only
    rw [out_A, iblk_1, iblk_0]
    exact congrArg (stored _ _ _ _ _) (congrArg (k0_pay2 · _) (iblk_2 m c t))
  · rw [outsAt0_B m c t h0]
    dsimp only
    rw [out_B, iblk_1]
    exact congrArg (stored _ _ _ _ _) (scratch_eq m c _ _)

/-- The array the kernel leaves: column `n` of row `r` is in block `n / 1280`. -/
def result (c : Dev nD) : Vec F S128x23040 .i8 := fun i =>
  let t : Fin cfg0.N := ⟨(i 1).val / 1280, by
    have : (i 1).val < 23040 := (i 1).isLt
    rw [show cfg0.N = 18 from N_0]; omega⟩
  stored (m ((c : Thread nD τ).loc main_arg6) ix0) (iblk m c 3 t) (iblk m c 4 t) (iblk m c 5 t) (iblk m c 6 t)
    (acts m c) (ix2 (i 0) ⟨(i 1).val % 1280, Nat.mod_lt _ (by decide)⟩)

/-- The entry of the array at column `j` of block `t` is the entry at column `j` of the block stored at point `t`. -/
theorem result_at (c : Dev nD) (t : Fin cfg0.N) (r : Fin 128) (j : Fin 1280) (i : S128x23040.Idx)
    (h0 : (i 0).val = r.val) (h1 : (i 1).val = t.val * 1280 + j.val) : result m c i
      = stored (m ((c : Thread nD τ).loc main_arg6) ix0) (iblk m c 3 t) (iblk m c 4 t) (iblk m c 5 t) (iblk m c 6 t)
          (acts m c) (ix2 r j) := by
  have hj := j.isLt
  have ht : (⟨(i 1).val / 1280, by
    have : (i 1).val < 23040 := (i 1).isLt
    rw [show cfg0.N = 18 from N_0]; omega⟩ : Fin cfg0.N) = t := Fin.ext (by dsimp only; omega)
  have hc : (⟨(i 1).val % 1280, Nat.mod_lt _ (by decide)⟩ : Fin 1280) = j := Fin.ext (by dsimp only; omega)
  have hr : i 0 = r := Fin.ext h0
  unfold result
  dsimp only
  rw [ht, hc, hr]

/-- What grid point `t` writes back is its block of the array. -/
theorem flushed_eq (c : Dev nD) (t : Fin cfg0.N) (_hf : (cfg0.win 7).flush t = true) :
    (dats m 0 c).flushed 7 t = ((cfg0.win 7).blk t).view.read (Elt F) (result m c) := by
  show (cfg0.win 7).cut (grid0.coords t) ((dats m 0 c).after 7 t) = _
  rw [after0_7, out_eq]
  funext j
  rw [View.read_apply]
  refine Eq.trans ?_ (result_at m c t (j 0) (j 1) _ ?_ ?_).symm
  · show stored _ _ _ _ _ _ _ = _
    congr 1
    funext a
    match a with
    | ⟨0, _⟩ => rfl
    | ⟨1, _⟩ => rfl
  · show win0_7.index t 0 * 128 + 1 * (j 0).val = (j 0).val
    rw [(index_7 t).1]; omega
  · show win0_7.index t 1 * 1280 + 1 * (j 1).val = t.val * 1280 + (j 1).val
    rw [(index_7 t).2]; omega

/-- The point whose block holds column `i 1`. -/
def pt (i : S128x23040.Idx) : Fin cfg0.N := ⟨(i 1).val / 1280, by
  have : (i 1).val < 23040 := (i 1).isLt
  rw [show cfg0.N = 18 from N_0]; omega⟩

/-- The 18 blocks cover the array, so the kernel leaves the whole of it. -/
theorem final (c : Dev nD) : Cert.KernelIdeal.Value.reg_main_v6 m c = result m c :=
  (dats m 0 c).arrAt_eq_of_cover 7 (result m c) (flushed_eq m c) fun i =>
    ⟨pt i, flush0_7 _, by
      have h0 : (i 0 : Nat) < 128 := (i 0).isLt
      have h1 : (i 1 : Nat) < 23040 := (i 1).isLt
      show i ∈ ((View.whole main_v6).slice (win0_7.rect (pt i))).set
      rw [View.set_slice_whole, Rect.mem_set_unit]
      intro a
      match a with
      | ⟨0, _⟩ =>
        show win0_7.index (pt i) 0 * 128 ≤ (i 0 : Nat) ∧ (i 0 : Nat) < win0_7.index (pt i) 0 * 128 + 128
        rw [(index_7 _).1]; omega
      | ⟨1, _⟩ =>
        show win0_7.index (pt i) 1 * 1280 ≤ (i 1 : Nat) ∧ (i 1 : Nat) < win0_7.index (pt i) 1 * 1280 + 1280
        rw [(index_7 _).2]; unfold pt; dsimp only; omega⟩

end Cert.KernelIdeal.Block
-- ==== Proof.Contraction.lean ====
module

public import Idealize.ShloMosaic.Lib.Pointwise

@[expose] public section

open Idealize.ShloMosaic

/-! # Sums of integers as sums over the extended reals -/

namespace Cert.Contraction

/-- A finite sum of reals is the same sum over the extended reals. -/
theorem sum_coe {n : Nat} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- The conversion to an integer of the exact sum of products of integers is that sum, when it fits a word. -/
theorem fptosi_sum {n : Nat} (a b : Fin n → Int) (h1 : -2147483648 ≤ ∑ k, a k * b k)
    (h2 : ∑ k, a k * b k ≤ 2147483647) :
    (FloatOps.fptosi (F := Ideal) (φ := .f32) 32 (∑ k, (((a k : ℝ) : EReal) * ((b k : ℝ) : EReal)) : EReal))
      = BitVec.ofInt 32 (∑ k, a k * b k) := by
  have hs : (∑ k, (((a k : ℝ) : EReal) * ((b k : ℝ) : EReal)) : EReal) = (((∑ k, a k * b k : Int) : ℝ) : EReal) := by
    rw [show ((∑ k, a k * b k : Int) : ℝ) = ∑ k, ((a k : ℝ) * (b k : ℝ)) by push_cast; rfl, ← sum_coe]
    rfl
  rw [hs]
  generalize ∑ k, a k * b k = z at *
  show Ideal.fptosi 32 ((z : ℝ) : EReal) = _
  unfold Ideal.fptosi
  rw [Ideal.toIntClamped_coe, Int.floor_intCast, Int.ceil_intCast, ite_self]
  congr 1
  norm_num
  omega

/-- A sum of `n` products of a number of size at most `A` with one of size at most `B` is of size at most `n A B`. -/
theorem sum_bound {n : Nat} (a b : Fin n → Int) (lo hi : Int)
    (h : ∀ k, lo ≤ a k * b k ∧ a k * b k ≤ hi) : n * lo ≤ ∑ k, a k * b k ∧ ∑ k, a k * b k ≤ n * hi := by
  constructor
  · simpa using Finset.card_nsmul_le_sum Finset.univ (fun k => a k * b k) lo fun k _ => (h k).1
  · simpa using Finset.sum_le_card_nsmul Finset.univ (fun k => a k * b k) hi fun k _ => (h k).2

/-- A sum over `2 n` rows taken two rows at a time. -/
theorem sum_pairs {M : Type} [AddCommMonoid M] (n : Nat) (f : Fin (2 * n) → M) :
    ∑ k, f k = (∑ p : Fin n, f ⟨2 * p.val, by omega⟩) + ∑ p : Fin n, f ⟨2 * p.val + 1, by omega⟩ := by
  induction n with
  | zero => simp
  | succ n ih =>
    have h := ih fun k => f ⟨k.val, by omega⟩
    have e1 : ∑ k, f k = (∑ k : Fin (2 * n), f ⟨k.val, by omega⟩) + f ⟨2 * n, by omega⟩ + f ⟨2 * n + 1, by omega⟩ :=
      (Fin.sum_univ_castSucc (n := 2 * n + 1) f).trans
        (congrArg (· + f ⟨2 * n + 1, by omega⟩) (Fin.sum_univ_castSucc (n := 2 * n) _))
    rw [e1, h, Fin.sum_univ_castSucc (n := n), Fin.sum_univ_castSucc (n := n)]
    dsimp only [Fin.val_castSucc, Fin.val_last]
    abel

end Cert.Contraction
-- ==== Proof.Nibble.lean ====
module

public import Idealize.ShloMosaic.Lib.Pointwise

@[expose] public section

open Idealize.ShloMosaic

/-! # The packed weights

A byte of the packed weights holds two 4-bit weights in two's complement, the one of the even row in its low nibble and
the one of the odd row in its high nibble. Both programs unpack them by shifts of a 32-bit word. -/

namespace Cert.Nibble

/-- The low nibble of a packed byte, sign-extended. -/
def low (b : BitVec 8) : BitVec 32 := IntOp.shrsi .vector (IntOp.shli .vector (b.setWidth 32) 28#32) 28#32
/-- The high nibble of a packed byte, sign-extended. -/
def high (b : BitVec 8) : BitVec 32 := IntOp.shrsi .vector (IntOp.shli .vector (b.setWidth 32) 24#32) 28#32

/-- The weight of row `k` in the packed byte `b` of row `k / 2`: its low nibble in an even row, its high nibble in an
    odd one. -/
def nib (b : BitVec 8) (k : Nat) : Int :=
  if k % 2 = 0 then ((low b).setWidth 8).toInt else ((high b).setWidth 8).toInt

/-- The low nibble is the same integer at 4 bits and at 8, and lies between −8 and 7. -/
theorem low_toInt : ∀ b : BitVec 8, ((low b).setWidth 4).toInt = ((low b).setWidth 8).toInt
    ∧ -8 ≤ ((low b).setWidth 8).toInt ∧ ((low b).setWidth 8).toInt ≤ 7 := by decide +kernel
/-- The high nibble is the same integer at 4 bits and at 8, and lies between −8 and 7. -/
theorem high_toInt : ∀ b : BitVec 8, ((high b).setWidth 4).toInt = ((high b).setWidth 8).toInt
    ∧ -8 ≤ ((high b).setWidth 8).toInt ∧ ((high b).setWidth 8).toInt ≤ 7 := by decide +kernel

/-- Every weight lies between −8 and 7. -/
theorem nib_bounds (b : BitVec 8) (k : Nat) : -8 ≤ nib b k ∧ nib b k ≤ 7 := by
  unfold nib
  split
  · exact (low_toInt b).2
  · exact (high_toInt b).2

/-- One row of activations, less its zero point `z`, times one column of unpacked weights: a sum of integers. -/
def dot (x : Fin 2880 → BitVec 8) (z : BitVec 32) (w : Fin 1440 → BitVec 8) : Int :=
  ∑ k : Fin 2880, ((x k).toInt - z.toInt) * nib (w ⟨k.val / 2, by omega⟩) k.val

end Cert.Nibble
-- ==== Proof.KernelValue.lean ====
module

public import proofs.«01_k».proof.Proof.KernelArray
public import proofs.«01_k».proof.Proof.Contraction
public import proofs.«01_k».proof.Proof.Nibble

@[expose] public section

set_option maxRecDepth 16384

noncomputable section

open Idealize.ShloMosaic Idealize.ShloMosaic.TcCoe Idealize.SL.Sem

/-! # What the kernel's body computes, entry by entry

The body unpacks the weights, multiplies the activations by them in floating point (exactly, at the ideal level), converts
the product to integers, adds the bias and requantises. -/

namespace Cert.KernelIdeal.Block

open Cert.KernelIdeal Cert.KernelIdeal.Gen Cert.Nibble

/-- The weights unpacked: int4 rows from the packed rows' words. -/
def unpacked (w : IVec S1440x1280 8) : IVec S2880x1280 4 :=
  let v4 : IVec S1440x1280 32 := extui 32 w natLt_8_32
  let v8 : IVec S1440x1280 32 := shrsi (shli v4 (broadcast S1440x1280 28#32)) (broadcast S1440x1280 28#32)
  let v12 : IVec S1440x1280 32 := shrsi (shli v4 (broadcast S1440x1280 24#32)) (broadcast S1440x1280 28#32)
  let v15 : IVec S1440x2x1280 32 := concatenate S1440x2x1280 1
    [⟨S1440x1x1280, shapeCast S1440x1x1280 v8 shapeCasts_S1440x1280_S1440x1x1280⟩,
      ⟨S1440x1x1280, shapeCast S1440x1x1280 v12 shapeCasts_S1440x1280_S1440x1x1280⟩]
    concatenates_S1440x1x1280_S1440x1x1280_S1440x2x1280_d1
  trunci 4 (shapeCast S2880x1280 v15 shapeCasts_S1440x2x1280_S2880x1280) natLt_4_32

/-- Row `k` of the unpacked weights is a nibble of packed row `k / 2`. -/
theorem unpacked_apply (w : IVec S1440x1280 8) (k : Fin 2880) (j : Fin 1280) :
    unpacked w (ix2 k j) = if k.val % 2 = 0 then (low (w (ix2 ⟨k.val / 2, by omega⟩ j))).setWidth 4
      else (high (w (ix2 ⟨k.val / 2, by omega⟩ j))).setWidth 4 := by
  pointwise [unpacked]
  unfold low high
  by_cases h : k.val % 2 = 0 <;> simp [h]

/-- The accumulator block: the product of the carried activations with the unpacked weights, converted to integers, plus
    the bias. -/
def accum (w : IVec S1440x1280 8) (b : IVec S1x1280 32) (xs : FVec Ideal S128x2880 .bf16) : IVec S128x1280 32 :=
  addi (fptosi 32 (matmul dot_S128x2880_S2880x1280_S128x1280_1_0_0_1_n_n none xs
    (sitofp .bf16 (unpacked w)) (constant S128x1280 .f32 0x00000000#32 : FVec Ideal S128x1280 .f32))) (broadcastTo S128x1280 b broadcasts_S1x1280_S128x1280)

/-- The block the body stores, entry by entry: the requantised accumulator. -/
theorem stored_apply (y : BitVec 32) (w : Vec Ideal S1440x1280 .i8) (b m0 e : Vec Ideal S1x1280 .i32)
    (xs : Vec Ideal S128x2880 .bf16) (r : Fin 128) (j : Fin 1280) :
    stored y w b m0 e xs (ix2 r j)
      = Cert.Requant.kernelOut (accum w b xs (ix2 r j)) (m0 (ix2 0 j)) (e (ix2 0 j)) y := by
  have h6 : k0_pay6 w xs b = xori (accum w b xs) (broadcast S128x1280 2147483648#32) := by
    unfold k0_pay6; simp only [shapeCast_self]; rfl
  unfold stored k0_pay7
  rw [h6]
  generalize accum w b xs = acc
  unfold k0_pay1 k0_pay9 k0_pay3 k0_pay4 k0_pay5 k0_pay3 k0_pay8
  simp only [shapeCast_self]
  pointwise
  rfl

/-- Row `k` of the unpacked weights, as integers. -/
theorem unpacked_toInt (w : IVec S1440x1280 8) (k : Fin 2880) (j : Fin 1280) :
    (unpacked w (ix2 k j)).toInt = nib (w (ix2 ⟨k.val / 2, by omega⟩ j)) k.val := by
  rw [unpacked_apply]
  unfold nib
  split
  · exact (low_toInt _).1
  · exact (high_toInt _).1

/-- A product of an activation less a zero point in the range with a weight. -/
theorem term_bounds (x : BitVec 8) (z w : Int) (hz1 : -93079 ≤ z) (hz2 : z ≤ 93078) (hw1 : -8 ≤ w) (hw2 : w ≤ 7) :
    -745648 ≤ (x.toInt - z) * w ∧ (x.toInt - z) * w ≤ 745648 := by
  have h1 := BitVec.le_toInt (x := x)
  have h2 := BitVec.toInt_lt (x := x)
  norm_num at h1 h2
  constructor <;> nlinarith

/-- The accumulator block, entry by entry: the integer product plus the bias. The product is exact, and the zero point's
    range keeps it within a word, so the conversion to an integer does not clamp. -/
theorem accum_apply (w : IVec S1440x1280 8) (b : IVec S1x1280 32) (xs : FVec Ideal S128x2880 .bf16) (r : Fin 128)
    (j : Fin 1280) (x : Fin 2880 → BitVec 8) (z : BitVec 32) (hz1 : -93079 ≤ z.toInt) (hz2 : z.toInt ≤ 93078)
    (hx : ∀ k, xs (ix2 r k) = ((((x k).toInt - z.toInt : Int) : ℝ) : EReal)) :
    accum w b xs (ix2 r j)
      = IntOp.addi (BitVec.ofInt 32 (dot x z fun p => w (ix2 p j))) (b (ix2 0 j)) := by
  pointwise [accum]
  congr 1
  have hb := Contraction.sum_bound (n := 2880) (fun k => (x k).toInt - z.toInt)
    (fun k => nib (w (ix2 ⟨k.val / 2, by omega⟩ j)) k.val) (-745648) 745648
    fun k => term_bounds _ _ _ hz1 hz2 (nib_bounds _ _).1 (nib_bounds _ _).2
  unfold dot
  rw [← Contraction.fptosi_sum (n := 2880) (fun k => (x k).toInt - z.toInt)
    (fun k => nib (w (ix2 ⟨k.val / 2, by omega⟩ j)) k.val) (by omega) (by omega)]
  refine congrArg (FloatOps.fptosi (F := Ideal) (φ := .f32) 32) (Finset.sum_congr rfl fun k _ => ?_)
  rw [hx, ← unpacked_toInt]
  rfl

end Cert.KernelIdeal.Block
-- ==== Proof.KernelResult.lean ====
module

public import proofs.«01_k».proof.Proof.KernelValue

@[expose] public section

set_option maxRecDepth 16384

noncomputable section

open Idealize.ShloMosaic Idealize.ShloMosaic.TcCoe Idealize.SL.Sem

/-! # The kernel's result, entry by entry, from the arguments -/

namespace Cert.KernelIdeal.Block

open Cert.KernelIdeal Cert.KernelIdeal.Gen Cert.Nibble

variable (m : (ℓ : Loc nD τ sig) → Buf (Elt Ideal) ℓ)

/-- An activation less a zero point in the range does not wrap. -/
theorem shifted_toInt (x : BitVec 8) (z : BitVec 32) (hz1 : -93079 ≤ z.toInt) (hz2 : z.toInt ≤ 93078) :
    (IntOp.subi (x.signExtend 32) z).toInt = x.toInt - z.toInt := by
  have h1 := BitVec.le_toInt (x := x)
  have h2 := BitVec.toInt_lt (x := x)
  norm_num at h1 h2
  have h : (x.signExtend 32).toInt = x.toInt := BitVec.toInt_signExtend_of_le (by decide)
  rw [Requant.subI _ _ (by omega) (by omega), h]

/-- The activations less the zero point, rounded to bfloat16: exact at the ideal level. -/
theorem pay2_apply (x : IVec S1x128x2880 8) (z : BitVec 32) (r : Fin 128) (k : Fin 2880)
    (hz1 : -93079 ≤ z.toInt) (hz2 : z.toInt ≤ 93078) :
    k0_pay2 (F := Ideal) (shapeCast S128x2880 x shapeCasts_S1x128x2880_S128x2880) z (ix2 r k)
      = ((((x (ix3 0 r k)).toInt - z.toInt : Int) : ℝ) : EReal) := by
  rw [← shifted_toInt _ _ hz1 hz2]
  unfold k0_pay2
  simp only [shapeCast_self]
  pointwise
  rfl

/-- The carried activations, entry by entry. -/
theorem acts_apply (c : Dev nD) (r : Fin 128) (k : Fin 2880)
    (hz1 : -93079 ≤ (m ((c : Thread nD τ).loc main_arg1) ix0 : BitVec 32).toInt)
    (hz2 : (m ((c : Thread nD τ).loc main_arg1) ix0 : BitVec 32).toInt ≤ 93078) :
    acts m c (ix2 r k) = ((((m ((c : Thread nD τ).loc main_arg0) (ix3 0 r k) : BitVec 8).toInt
      - (m ((c : Thread nD τ).loc main_arg1) ix0 : BitVec 32).toInt : Int) : ℝ) : EReal) :=
  pay2_apply _ _ r k hz1 hz2

/-- The array the kernel leaves, at row `r` and column `n`, for an input zero point in the range. -/
theorem result_apply (c : Dev nD) (r : Fin 128) (n : Fin 23040)
    (hz1 : -93079 ≤ (m ((c : Thread nD τ).loc main_arg1) ix0 : BitVec 32).toInt)
    (hz2 : (m ((c : Thread nD τ).loc main_arg1) ix0 : BitVec 32).toInt ≤ 93078) :
    result m c (ix2 r n) = Cert.Requant.kernelOut
      (IntOp.addi
        (BitVec.ofInt 32 (dot (fun k => m ((c : Thread nD τ).loc main_arg0) (ix3 0 r k))
          (m ((c : Thread nD τ).loc main_arg1) ix0) fun p => m ((c : Thread nD τ).loc main_arg2) (ix2 p n)))
        (m ((c : Thread nD τ).loc main_arg3) (ix1 n)))
      (m ((c : Thread nD τ).loc main_arg4) (ix1 n)) (m ((c : Thread nD τ).loc main_arg5) (ix1 n))
      (m ((c : Thread nD τ).loc main_arg6) ix0) := by
  have hn := n.isLt
  obtain ⟨t, ht⟩ : ∃ t : Fin cfg0.N, t.val = n.val / 1280 :=
    ⟨⟨n.val / 1280, by rw [show cfg0.N = 18 from N_0]; omega⟩, rfl⟩
  obtain ⟨j, hj⟩ : ∃ j : Fin 1280, j.val = n.val % 1280 := ⟨⟨n.val % 1280, by omega⟩, rfl⟩
  have hcol : col t j = n := Fin.ext (by unfold col; dsimp only; omega)
  rw [result_at m c t r j (ix2 r n) rfl (by show n.val = _; omega), stored_apply,
    accum_apply _ _ _ _ _ (fun k => m ((c : Thread nD τ).loc main_arg0) (ix3 0 r k)) _ hz1 hz2
      fun k => acts_apply m c r k hz1 hz2]
  rw [iblk_4, iblk_5, iblk_6, hcol]
  simp only [iblk_3, hcol]

end Cert.KernelIdeal.Block
-- ==== Proof.RefProducts.lean ====
module

public import proofs.«01_k».proof.Proof.Gen.ReferenceIdeal.Run
public import proofs.«01_k».proof.Proof.Nibble
public import Idealize.ShloMosaic.Lib.IntMxu
public import Idealize.ShloMosaic.Lib.Pipeline.Value

@[expose] public section

set_option maxRecDepth 16384

noncomputable section

open Idealize.ShloMosaic Idealize.ShloMosaic.TcCoe Idealize.SL.Sem Idealize.ShloMosaic.StableHlo
open Idealize.ShloMosaic.Pipeline (Dat)

/-! # The reference's two integer products

The region of the reference has one grid point, whose blocks are whole arrays: it writes the product of the even columns
of the activations with the low nibbles, and of the odd columns with the high nibbles. -/

namespace Cert.ReferenceIdeal.Products

open Cert.ReferenceIdeal Cert.ReferenceIdeal.Gen Cert.Nibble

variable {F : FTy → Type} [FloatOps F]
variable (m : (ℓ : Loc nD τ sig) → Buf (Elt F) ℓ)

/-- The offsets `![0, 0]` are zero on both axes. -/
theorem hz : (![0, 0] : Fin 2 → Nat) = fun _ => 0 := funext fun a => by fin_cases a <;> rfl

/-- The product of `a` and `b`, entry by entry, as a word. -/
def product (a : S128x1440.Idx → BitVec 8) (b : S1440x23040.Idx → BitVec 8) (i : S128x23040.Idx) : BitVec 32 :=
  BitVec.ofInt 32 (∑ p : Fin 1440, (a (ix2 (i 0) p)).toInt * (b (ix2 p (i 1))).toInt)

/-- A byte times a nibble is at most 1024 in magnitude. -/
theorem abs_le (x y : BitVec 8) (hy : y.toInt.natAbs ≤ 8) : (x.toInt * y.toInt).natAbs ≤ 1024 := by
  rw [Int.natAbs_mul]
  exact Nat.mul_le_mul (natAbs_toInt_i8_le x) hy

/-- The integer matrix unit's product of 1440 pairs is exact when the weights are nibbles. -/
theorem matmul_apply (a : IVec S128x1440 8) (b : IVec S1440x23040 8) (hb : ∀ i, (b i).toInt.natAbs ≤ 8) :
    matmulI8 IntMxuNumerics.v7x dot_S128x1440_S1440x23040_S128x23040_1_0_0_1_n_n a b (constantI S128x23040 32 0#32)
      = product a b := by
  funext j
  rw [matmulI8_exact _ _ a b _ j rfl ?_]
  · unfold product dotI8
    refine congrArg (BitVec.ofInt 32) ?_
    rw [DotDims.sum_contr₁ _ (a := 1) rfl (K := 1440) rfl]
    refine Finset.sum_congr rfl fun k _ => ?_
    refine congrArg₂ (fun x y : BitVec 8 => x.toInt * y.toInt) (congrArg a ?_) (congrArg b ?_)
    · funext c
      match c with
      | ⟨0, _⟩ => rfl
      | ⟨1, _⟩ => rfl
    · funext c
      match c with
      | ⟨0, _⟩ => rfl
      | ⟨1, _⟩ => rfl
  · unfold absDotI8
    rw [DotDims.sum_contr₁ _ (a := 1) rfl (K := 1440) rfl]
    refine (Finset.sum_le_card_nsmul Finset.univ _ 1024 fun k _ => abs_le _ _ (hb _)).trans ?_
    rw [Finset.card_univ, Fintype.card_fin]
    decide

/-- The first stored value of the region is the integer product, when the weights are nibbles. -/
theorem pay1_eq (a : Vec F S128x1440 .i8) (b : Vec F S1440x23040 .i8)
    (hb : ∀ i, ((b i : BitVec 8)).toInt.natAbs ≤ 8) : k0_pay1 (F := F) a b = product a b := by
  unfold k0_pay1
  simp only [shapeCast_self]
  exact matmul_apply a b hb

/-- The second stored value of the region is the integer product, when the weights are nibbles. -/
theorem pay2_eq (a : Vec F S128x1440 .i8) (b : Vec F S1440x23040 .i8)
    (hb : ∀ i, ((b i : BitVec 8)).toInt.natAbs ≤ 8) : k0_pay2 (F := F) a b = product a b := by
  unfold k0_pay2
  simp only [shapeCast_self]
  exact matmul_apply a b hb

/-- The body leaves the product of the first pair of blocks in its first result. -/
theorem out_4 (x0 x1 : Vec F S128x1440 .i8) (x2 x3 : Vec F S1440x23040 .i8) :
    out0_4 x0 x1 x2 x3 = k0_pay1 x0 x2 := by
  unfold out0_4
  rw [View.canon_unit_zero hz, View.ld_unit_zero (S := S128x1440) hz, View.ld_unit_zero (S := S1440x23040) hz]

/-- The body leaves the product of the second pair of blocks in its second result. -/
theorem out_5 (x0 x1 : Vec F S128x1440 .i8) (x2 x3 : Vec F S1440x23040 .i8) :
    out0_5 x0 x1 x2 x3 = k0_pay2 x1 x3 := by
  unfold out0_5
  rw [View.canon_unit_zero hz, View.ld_unit_zero (S := S128x1440) hz, View.ld_unit_zero (S := S1440x23040) hz]

/-- The one grid point. -/
def t₀ : Fin cfg0.N := ⟨0, by decide⟩

/-- The first result of the region: the payload of the even columns and the low nibbles. -/
theorem final_4 (c : Dev nD) : Value.reg_main_v14_0 m c = k0_pay1 (V m c main_v12) (V m c main_v5) := by
  have ho : ((cfg0.win (4 : Fin 6)).blk t₀).view.read (Elt F) ((dats m 0 c).arrAt (4 : Fin 6) cfg0.N)
      = (dats m 0 c).flushed (4 : Fin 6) t₀ := by
    rw [show cfg0.N = (t₀ : Fin cfg0.N).val + 1 from rfl, (dats m 0 c).arrAt_succ (4 : Fin 6) t₀]
    rw [show (cfg0.win (4 : Fin 6)).flush t₀ = true from by decide, if_pos rfl]
    exact View.read_write_univ _ _
  have hz2 : (fun a => (win0_4.index t₀) a * main_v14_0.ty.shape.size a) = fun _ => 0 := funext fun a => by fin_cases a <;> decide
  have hr2 := fun f => Memref.read_access_unit_zero (Elt F) main_v14_0 hz2 (fun a => by fin_cases a <;> decide) f
  have hz0 : (fun a => (win0_0.index t₀) a * main_v12.ty.shape.size a) = fun _ => 0 := funext fun a => by fin_cases a <;> decide
  have hr0 := fun f => Memref.read_access_unit_zero (Elt F) main_v12 hz0 (fun a => by fin_cases a <;> decide) f
  have hz1 : (fun a => (win0_2.index t₀) a * main_v5.ty.shape.size a) = fun _ => 0 := funext fun a => by fin_cases a <;> decide
  have hr1 := fun f => Memref.read_access_unit_zero (Elt F) main_v5 hz1 (fun a => by fin_cases a <;> decide) f
  rw [hr2] at ho
  unfold Value.reg_main_v14_0
  rw [ho]
  show (cfg0.win (4 : Fin 6)).cut _ ((dats m 0 c).after 4 t₀) = _
  rw [after0_4, out_4]
  unfold iblk
  rw [hr0, hr1]
  rfl

/-- The second result of the region: the payload of the odd columns and the high nibbles. -/
theorem final_5 (c : Dev nD) : Value.reg_main_v14_1 m c = k0_pay2 (V m c main_v13) (V m c main_v10) := by
  have ho : ((cfg0.win (5 : Fin 6)).blk t₀).view.read (Elt F) ((dats m 0 c).arrAt (5 : Fin 6) cfg0.N)
      = (dats m 0 c).flushed (5 : Fin 6) t₀ := by
    rw [show cfg0.N = (t₀ : Fin cfg0.N).val + 1 from rfl, (dats m 0 c).arrAt_succ (5 : Fin 6) t₀]
    rw [show (cfg0.win (5 : Fin 6)).flush t₀ = true from by decide, if_pos rfl]
    exact View.read_write_univ _ _
  have hz2 : (fun a => (win0_5.index t₀) a * main_v14_1.ty.shape.size a) = fun _ => 0 := funext fun a => by fin_cases a <;> decide
  have hr2 := fun f => Memref.read_access_unit_zero (Elt F) main_v14_1 hz2 (fun a => by fin_cases a <;> decide) f
  have hz0 : (fun a => (win0_1.index t₀) a * main_v13.ty.shape.size a) = fun _ => 0 := funext fun a => by fin_cases a <;> decide
  have hr0 := fun f => Memref.read_access_unit_zero (Elt F) main_v13 hz0 (fun a => by fin_cases a <;> decide) f
  have hz1 : (fun a => (win0_3.index t₀) a * main_v10.ty.shape.size a) = fun _ => 0 := funext fun a => by fin_cases a <;> decide
  have hr1 := fun f => Memref.read_access_unit_zero (Elt F) main_v10 hz1 (fun a => by fin_cases a <;> decide) f
  rw [hr2] at ho
  unfold Value.reg_main_v14_1
  rw [ho]
  show (cfg0.win (5 : Fin 6)).cut _ ((dats m 0 c).after 5 t₀) = _
  rw [after0_5, out_5]
  unfold iblk
  rw [hr0, hr1]
  rfl

/-- The low nibbles, as the region finds them. -/
theorem V_v5 (c : Dev nD) : V m c main_v5 = trunci 8 (Host.shrsi (Host.shli (extui 32 (m ((c.tc : Thread nD τ).loc main_arg2)) natLt_8_32)
      (broadcastInDim S1440x23040 ![] bcast_S_S1440x23040 (constantI S_ 32 28#32)))
      (broadcastInDim S1440x23040 ![] bcast_S_S1440x23040 (constantI S_ 32 28#32))) natLt_8_32 := by
  show after (List.flatten [hostOps0]) (fun b => m (c, b)) (Proc.devRef .tc main_v5) = _
  simp only [hostOps0, List.flatten_cons, List.flatten_nil, List.append_nil, List.cons_append, List.nil_append]
  after_results <;> rfl

/-- The high nibbles, as the region finds them. -/
theorem V_v10 (c : Dev nD) : V m c main_v10 = trunci 8 (Host.shrsi (Host.shli (extui 32 (m ((c.tc : Thread nD τ).loc main_arg2)) natLt_8_32)
      (broadcastInDim S1440x23040 ![] bcast_S_S1440x23040 (constantI S_ 32 24#32)))
      (broadcastInDim S1440x23040 ![] bcast_S_S1440x23040 (constantI S_ 32 28#32))) natLt_8_32 := by
  show after (List.flatten [hostOps0]) (fun b => m (c, b)) (Proc.devRef .tc main_v10) = _
  simp only [hostOps0, List.flatten_cons, List.flatten_nil, List.append_nil, List.cons_append, List.nil_append]
  after_results <;> rfl

/-- The even columns of the activations, as the region finds them. -/
theorem V_v12 (c : Dev nD) : V m c main_v12 = Host.slice S128x1440 ![0, 0] ![1, 2]
      (shapeCast S128x2880 (m ((c.tc : Thread nD τ).loc main_arg0)) shapeCasts_S1x128x2880_S128x2880)
      slicesBy_S128x2880_S128x1440_0s1_0s2 := by
  show after (List.flatten [hostOps0]) (fun b => m (c, b)) (Proc.devRef .tc main_v12) = _
  simp only [hostOps0, List.flatten_cons, List.flatten_nil, List.append_nil, List.cons_append, List.nil_append]
  after_results <;> rfl

/-- The odd columns of the activations, as the region finds them. -/
theorem V_v13 (c : Dev nD) : V m c main_v13 = Host.slice S128x1440 ![0, 1] ![1, 2]
      (shapeCast S128x2880 (m ((c.tc : Thread nD τ).loc main_arg0)) shapeCasts_S1x128x2880_S128x2880)
      slicesBy_S128x2880_S128x1440_0s1_1s2 := by
  show after (List.flatten [hostOps0]) (fun b => m (c, b)) (Proc.devRef .tc main_v13) = _
  simp only [hostOps0, List.flatten_cons, List.flatten_nil, List.append_nil, List.cons_append, List.nil_append]
  after_results <;> rfl

/-- The low nibbles of the packed weights, as bytes. -/
def lows (w : S1440x23040.Idx → BitVec 8) (i : S1440x23040.Idx) : BitVec 8 := (low (w i)).setWidth 8
/-- The high nibbles of the packed weights, as bytes. -/
def highs (w : S1440x23040.Idx → BitVec 8) (i : S1440x23040.Idx) : BitVec 8 := (high (w i)).setWidth 8

/-- Shifting left by 28 and right by 28 and cutting to a byte gives the low nibbles. -/
theorem lows_eq (w : IVec S1440x23040 8) : trunci 8 (Host.shrsi (Host.shli (extui 32 w natLt_8_32)
      (broadcastInDim S1440x23040 ![] bcast_S_S1440x23040 (constantI S_ 32 28#32)))
      (broadcastInDim S1440x23040 ![] bcast_S_S1440x23040 (constantI S_ 32 28#32))) natLt_8_32 = lows w := by
  funext i
  pointwise
  rfl

/-- Shifting left by 24 and right by 28 and cutting to a byte gives the high nibbles. -/
theorem highs_eq (w : IVec S1440x23040 8) : trunci 8 (Host.shrsi (Host.shli (extui 32 w natLt_8_32)
      (broadcastInDim S1440x23040 ![] bcast_S_S1440x23040 (constantI S_ 32 24#32)))
      (broadcastInDim S1440x23040 ![] bcast_S_S1440x23040 (constantI S_ 32 28#32))) natLt_8_32 = highs w := by
  funext i
  pointwise
  rfl

/-- The even columns of the activations, entry by entry. -/
theorem evens_apply (x : IVec S1x128x2880 8) (r : Fin 128) (p : Fin 1440) :
    Host.slice S128x1440 ![0, 0] ![1, 2] (shapeCast S128x2880 x shapeCasts_S1x128x2880_S128x2880)
      slicesBy_S128x2880_S128x1440_0s1_0s2 (ix2 r p) = x (ix3 0 r ⟨2 * p.val, by omega⟩) := by
  pointwise

/-- The odd columns of the activations, entry by entry. -/
theorem odds_apply (x : IVec S1x128x2880 8) (r : Fin 128) (p : Fin 1440) :
    Host.slice S128x1440 ![0, 1] ![1, 2] (shapeCast S128x2880 x shapeCasts_S1x128x2880_S128x2880)
      slicesBy_S128x2880_S128x1440_0s1_1s2 (ix2 r p) = x (ix3 0 r ⟨2 * p.val + 1, by omega⟩) := by
  pointwise
  exact congrArg (fun q => x (ix3 0 r q)) (Fin.ext (Nat.add_comm _ _))

end Cert.ReferenceIdeal.Products
-- ==== Proof.RefValue.lean ====
module

public import proofs.«01_k».proof.Proof.RefProducts
public import proofs.«01_k».proof.Proof.Contraction
public import proofs.«01_k».proof.Proof.Requant
public import Idealize.ShloMosaic.Lib.Tactic.CleanTypes

@[expose] public section

set_option maxRecDepth 16384

noncomputable section

open Idealize.ShloMosaic Idealize.ShloMosaic.TcCoe Idealize.SL.Sem Idealize.ShloMosaic.StableHlo

/-! # The reference's result, entry by entry, from the arguments -/

namespace Cert.ReferenceIdeal.Products

open Cert.ReferenceIdeal Cert.ReferenceIdeal.Gen Cert.ReferenceIdeal.Value Cert.Nibble

/-- A sum of words of integers is the word of their sum. -/
theorem fold_ofInt {n : Nat} (f : Fin n → BitVec 32) (g : Fin n → Int) (h : ∀ k, f k = BitVec.ofInt 32 (g k)) :
    (Finset.univ : Finset (Fin n)).fold IntOp.addi 0#32 f = BitVec.ofInt 32 (∑ k, g k) := by
  have : ∀ s : Finset (Fin n), s.fold IntOp.addi 0#32 f = BitVec.ofInt 32 (∑ k ∈ s, g k) := by
    classical
    intro s
    induction s using Finset.induction_on with
    | empty => simp
    | insert a s ha ih =>
      rw [Finset.fold_insert ha, Finset.sum_insert ha, ih, h a, BitVec.ofInt_add]
      rfl
  exact this _

/-- A byte widened to a word is the word of its integer. -/
theorem widen_ofInt (b : BitVec 8) : b.signExtend 32 = BitVec.ofInt 32 b.toInt := rfl

/-- The sum of a column of bytes. -/
theorem colsum (e : S1440x23040.Idx → BitVec 8) (n : Fin 23040) :
    Host.reduce IntOp.addi (extsi 32 (e : IVec S1440x23040 8) natLt_8_32) (constantI S_ 32 0#32) reducesTo_S1440x23040_S23040_d0 h_S_ (ix1 n)
      = BitVec.ofInt 32 (∑ p : Fin 1440, (e (ix2 p n)).toInt) := by
  rw [Host.reduce_eq_fold, Shape.ReducesTo.fold_fiber_r2_a0]
  exact fold_ofInt _ _ fun k => rfl

/-- The integer product, taken apart: the even columns with the low nibbles, the odd columns with the high nibbles, less
    the zero point times the sum of the weights. -/
theorem dot_split (x : Fin 2880 → BitVec 8) (z : BitVec 32) (w : Fin 1440 → BitVec 8) :
    dot x z w = (∑ p : Fin 1440, (x ⟨2 * p.val, by omega⟩).toInt * ((low (w p)).setWidth 8).toInt)
        + (∑ p : Fin 1440, (x ⟨2 * p.val + 1, by omega⟩).toInt * ((high (w p)).setWidth 8).toInt)
      - z.toInt * ((∑ p : Fin 1440, ((low (w p)).setWidth 8).toInt) + ∑ p : Fin 1440, ((high (w p)).setWidth 8).toInt) := by
  unfold dot
  refine (Contraction.sum_pairs 1440 fun k : Fin 2880 =>
    ((x k).toInt - z.toInt) * nib (w ⟨k.val / 2, by omega⟩) k.val).trans ?_
  rw [mul_add, Finset.mul_sum, Finset.mul_sum, add_sub_add_comm, ← Finset.sum_sub_distrib, ← Finset.sum_sub_distrib]
  refine congrArg₂ (· + ·) (Finset.sum_congr rfl fun p _ => ?_) (Finset.sum_congr rfl fun p _ => ?_)
  · have h : (⟨2 * p.val / 2, by omega⟩ : Fin 1440) = p := Fin.ext (by show 2 * p.val / 2 = p.val; omega)
    unfold nib
    dsimp only
    rw [if_pos (by omega), h, sub_mul]
  · have h : (⟨(2 * p.val + 1) / 2, by omega⟩ : Fin 1440) = p := Fin.ext (by show (2 * p.val + 1) / 2 = p.val; omega)
    unfold nib
    dsimp only
    rw [if_neg (by omega), h, sub_mul]

/-- The reference's accumulator less its bias is the word of the integer product. -/
theorem acc_eq (x : Fin 2880 → BitVec 8) (z : BitVec 32) (w : Fin 1440 → BitVec 8) :
    IntOp.subi
      (IntOp.addi (BitVec.ofInt 32 (∑ p : Fin 1440, (x ⟨2 * p.val, by omega⟩).toInt * ((low (w p)).setWidth 8).toInt))
        (BitVec.ofInt 32 (∑ p : Fin 1440, (x ⟨2 * p.val + 1, by omega⟩).toInt * ((high (w p)).setWidth 8).toInt)))
      (IntOp.muli z (IntOp.addi (BitVec.ofInt 32 (∑ p : Fin 1440, ((low (w p)).setWidth 8).toInt))
        (BitVec.ofInt 32 (∑ p : Fin 1440, ((high (w p)).setWidth 8).toInt))))
      = BitVec.ofInt 32 (dot x z w) := by
  rw [dot_split, sub_eq_add_neg, BitVec.ofInt_add, BitVec.ofInt_neg, BitVec.ofInt_mul, BitVec.ofInt_toInt,
    BitVec.ofInt_add, BitVec.ofInt_add, ← BitVec.sub_eq_add_neg]
  rfl

/-- Whether the accumulator is negative, entry by entry. -/
theorem v30_apply (V0 : Valuation τ sig (Elt Ideal)) (r : Fin 128) (n : Fin 23040) :
    (res_main_v30 V0 : IVec S128x23040 1) (ix2 r n)
      = IntOp.cmpi .slt ((res_main_v28 V0 : IVec S128x23040 32) (ix2 r n)) 0#32 := by
  unfold res_main_v30
  generalize res_main_v28 V0 = a28
  clean_types
  pointwise

/-- The accumulator's magnitude, entry by entry. -/
theorem v32_apply (V0 : Valuation τ sig (Elt Ideal)) (r : Fin 128) (n : Fin 23040) :
    (res_main_v32 V0 : IVec S128x23040 32) (ix2 r n)
      = IntOp.absi ((res_main_v28 V0 : IVec S128x23040 32) (ix2 r n)) := by
  unfold res_main_v32
  generalize res_main_v28 V0 = a28
  rw [id_eq]
  clean_types
  pointwise

/-- The multiplier read as an unsigned word, entry by entry. -/
theorem v33_apply (V0 : Valuation τ sig (Elt Ideal)) (n : Fin 23040) :
    (res_main_v33 V0 : IVec S23040 32) (ix1 n)
      = V0 (Proc.devRef .tc main_arg4) (ix1 n) := by
  unfold res_main_v33
  rw [id_eq]

/-- The high half of the magnitude, entry by entry. -/
theorem v35_apply (V0 : Valuation τ sig (Elt Ideal)) (r : Fin 128) (n : Fin 23040) :
    (res_main_v35 V0 : IVec S128x23040 32) (ix2 r n)
      = IntOp.shrui .host ((res_main_v32 V0 : IVec S128x23040 32) (ix2 r n)) 16#32 := by
  unfold res_main_v35
  generalize res_main_v32 V0 = a32
  clean_types
  pointwise

/-- The low half of the magnitude, entry by entry. -/
theorem v37_apply (V0 : Valuation τ sig (Elt Ideal)) (r : Fin 128) (n : Fin 23040) :
    (res_main_v37 V0 : IVec S128x23040 32) (ix2 r n)
      = IntOp.andi ((res_main_v32 V0 : IVec S128x23040 32) (ix2 r n)) 65535#32 := by
  unfold res_main_v37
  generalize res_main_v32 V0 = a32
  clean_types
  pointwise

/-- The high half of the multiplier, entry by entry. -/
theorem v39_apply (V0 : Valuation τ sig (Elt Ideal)) (n : Fin 23040) :
    (res_main_v39 V0 : IVec S23040 32) (ix1 n)
      = IntOp.shrui .host ((res_main_v33 V0 : IVec S23040 32) (ix1 n)) 16#32 := by
  unfold res_main_v39
  generalize res_main_v33 V0 = a33
  clean_types
  pointwise

/-- The low half of the multiplier, entry by entry. -/
theorem v41_apply (V0 : Valuation τ sig (Elt Ideal)) (n : Fin 23040) :
    (res_main_v41 V0 : IVec S23040 32) (ix1 n)
      = IntOp.andi ((res_main_v33 V0 : IVec S23040 32) (ix1 n)) 65535#32 := by
  unfold res_main_v41
  generalize res_main_v33 V0 = a33
  clean_types
  pointwise

/-- The product of the two low halves, entry by entry. -/
theorem v44_apply (V0 : Valuation τ sig (Elt Ideal)) (r : Fin 128) (n : Fin 23040) :
    (res_main_v44 V0 : IVec S128x23040 32) (ix2 r n)
      = IntOp.muli ((res_main_v37 V0 : IVec S128x23040 32) (ix2 r n)) ((res_main_v41 V0 : IVec S23040 32) (ix1 n)) := by
  unfold res_main_v44
  generalize res_main_v37 V0 = a37
  generalize res_main_v41 V0 = a41
  clean_types
  pointwise

/-- The sum of the two mixed products of halves, entry by entry. -/
theorem v51_apply (V0 : Valuation τ sig (Elt Ideal)) (r : Fin 128) (n : Fin 23040) :
    (res_main_v51 V0 : IVec S128x23040 32) (ix2 r n)
      = IntOp.addi (IntOp.muli ((res_main_v35 V0 : IVec S128x23040 32) (ix2 r n)) ((res_main_v41 V0 : IVec S23040 32) (ix1 n))) (IntOp.muli ((res_main_v37 V0 : IVec S128x23040 32) (ix2 r n)) ((res_main_v39 V0 : IVec S23040 32) (ix1 n))) := by
  unfold res_main_v51
  generalize res_main_v35 V0 = a35
  generalize res_main_v41 V0 = a41
  generalize res_main_v37 V0 = a37
  generalize res_main_v39 V0 = a39
  clean_types
  pointwise

/-- The low word of the long product, entry by entry. -/
theorem v57_apply (V0 : Valuation τ sig (Elt Ideal)) (r : Fin 128) (n : Fin 23040) :
    (res_main_v57 V0 : IVec S128x23040 32) (ix2 r n)
      = IntOp.addi ((res_main_v44 V0 : IVec S128x23040 32) (ix2 r n)) (IntOp.shli .host ((res_main_v51 V0 : IVec S128x23040 32) (ix2 r n)) 16#32) := by
  unfold res_main_v57
  generalize res_main_v44 V0 = a44
  generalize res_main_v51 V0 = a51
  clean_types
  pointwise

/-- The low word with the rounding nudge added, entry by entry. -/
theorem v65_apply (V0 : Valuation τ sig (Elt Ideal)) (r : Fin 128) (n : Fin 23040) :
    (res_main_v65 V0 : IVec S128x23040 32) (ix2 r n)
      = IntOp.addi ((res_main_v57 V0 : IVec S128x23040 32) (ix2 r n)) (Scalar.select ((res_main_v30 V0 : IVec S128x23040 1) (ix2 r n)) 1073741823#32 1073741824#32) := by
  unfold res_main_v65
  generalize res_main_v57 V0 = a57
  generalize res_main_v30 V0 = a30
  clean_types
  pointwise

/-- The rounded high product of the magnitude, entry by entry: the high word with its two carries, doubled, and the top bit of the low word. -/
theorem v74_apply (V0 : Valuation τ sig (Elt Ideal)) (r : Fin 128) (n : Fin 23040) :
    (res_main_v74 V0 : IVec S128x23040 32) (ix2 r n)
      = IntOp.ori (IntOp.shli .host (IntOp.addi (IntOp.addi (IntOp.addi (IntOp.muli ((res_main_v35 V0 : IVec S128x23040 32) (ix2 r n)) ((res_main_v39 V0 : IVec S23040 32) (ix1 n))) (IntOp.shrui .host ((res_main_v51 V0 : IVec S128x23040 32) (ix2 r n)) 16#32)) ((IntOp.cmpi .ult ((res_main_v57 V0 : IVec S128x23040 32) (ix2 r n)) ((res_main_v44 V0 : IVec S128x23040 32) (ix2 r n))).setWidth 32)) ((IntOp.cmpi .ult ((res_main_v65 V0 : IVec S128x23040 32) (ix2 r n)) ((res_main_v57 V0 : IVec S128x23040 32) (ix2 r n))).setWidth 32)) 1#32) (IntOp.shrui .host ((res_main_v65 V0 : IVec S128x23040 32) (ix2 r n)) 31#32) := by
  unfold res_main_v74
  generalize res_main_v35 V0 = a35
  generalize res_main_v39 V0 = a39
  generalize res_main_v51 V0 = a51
  generalize res_main_v57 V0 = a57
  generalize res_main_v44 V0 = a44
  generalize res_main_v65 V0 = a65
  rw [id_eq]
  clean_types
  pointwise

/-- The rounded high product with the sign put back, entry by entry. -/
theorem v76_apply (V0 : Valuation τ sig (Elt Ideal)) (r : Fin 128) (n : Fin 23040) :
    (res_main_v76 V0 : IVec S128x23040 32) (ix2 r n)
      = Scalar.select ((res_main_v30 V0 : IVec S128x23040 1) (ix2 r n)) (Neg.neg (α := BitVec 32) ((res_main_v74 V0 : IVec S128x23040 32) (ix2 r n))) ((res_main_v74 V0 : IVec S128x23040 32) (ix2 r n)) := by
  unfold res_main_v76
  generalize res_main_v30 V0 = a30
  generalize res_main_v74 V0 = a74
  clean_types
  pointwise

/-- The reference's fixed-point product, entry by entry. -/
theorem product_apply (V0 : Valuation τ sig (Elt Ideal)) (r : Fin 128) (n : Fin 23040) :
    (res_main_v76 V0 : IVec S128x23040 32) (ix2 r n)
      = Requant.refMul ((res_main_v28 V0 : IVec S128x23040 32) (ix2 r n)) (V0 (Proc.devRef .tc main_arg4) (ix1 n)) := by
  rw [v76_apply, v74_apply, v65_apply, v57_apply, v51_apply, v44_apply, v41_apply, v39_apply, v37_apply, v35_apply, v33_apply,
    v32_apply, v30_apply]
  rfl

/-- The reference's accumulator, entry by entry. -/
theorem acc_apply (V0 : Valuation τ sig (Elt Ideal)) (r : Fin 128) (n : Fin 23040) :
    (res_main_v28 V0 : IVec S128x23040 32) (ix2 r n)
      = IntOp.addi
          (IntOp.subi (IntOp.addi (V0 (Proc.devRef .tc main_v14_0) (ix2 r n)) (V0 (Proc.devRef .tc main_v14_1) (ix2 r n)))
            (IntOp.muli (V0 (Proc.devRef .tc main_arg1) ix0)
              (IntOp.addi (BitVec.ofInt 32 (∑ p : Fin 1440, (V0 (Proc.devRef .tc main_v5) (ix2 p n) : BitVec 8).toInt))
                (BitVec.ofInt 32 (∑ p : Fin 1440, (V0 (Proc.devRef .tc main_v10) (ix2 p n) : BitVec 8).toInt)))))
          (V0 (Proc.devRef .tc main_arg3) (ix1 n)) := by
  rw [← colsum, ← colsum]
  unfold res_main_v28
  generalize (Host.reduce IntOp.addi (extsi 32 (V0 (Proc.devRef .tc main_v5)) natLt_8_32) (constantI S_ 32 0#32) reducesTo_S1440x23040_S23040_d0 h_S_) = s0
  generalize (Host.reduce IntOp.addi (extsi 32 (V0 (Proc.devRef .tc main_v10)) natLt_8_32) (constantI S_ 32 0#32) reducesTo_S1440x23040_S23040_d0 h_S_) = s1
  clean_types
  pointwise

/-- The reference's shift mask, entry by entry. -/
theorem v80_apply (V0 : Valuation τ sig (Elt Ideal)) (n : Fin 23040) :
    (res_main_v80 V0 : IVec S23040 32) (ix1 n)
      = IntOp.subi (IntOp.shli .host 1#32 (V0 (Proc.devRef .tc main_arg5) (ix1 n))) 1#32 := by
  unfold res_main_v80
  generalize V0 (Proc.devRef .tc main_arg5) = a
  clean_types
  pointwise

/-- The reference's result, as the composed term of the contents the operations after the two products run from. -/
def tail (V0 : Valuation τ sig (Elt Ideal)) : IVec S1x128x23040 8 :=
  shapeCast _ (trunci 8 (minsi (broadcastInDim S128x23040 ![] bcast_S_S128x23040 (id (constantI S_ 32 127#32))) (maxsi (broadcastInDim S128x23040 ![] bcast_S_S128x23040 (id (constantI S_ 32 4294967168#32))) (addi (addi (Host.shrsi (res_main_v76 V0) (broadcastInDim S128x23040 ![0, 1] bcast_S1x23040_S128x23040_0_1 (broadcastInDim S1x23040 ![1] bcast_S23040_S1x23040_1 (V0 (Proc.devRef .tc main_arg5))))) (extui 32 (cmpi .sgt (andi (res_main_v76 V0) (broadcastInDim S128x23040 ![0, 1] bcast_S1x23040_S128x23040_0_1 (broadcastInDim S1x23040 ![1] bcast_S23040_S1x23040_1 (res_main_v80 V0)))) (addi (broadcastInDim S128x23040 ![0, 1] bcast_S1x23040_S128x23040_0_1 (broadcastInDim S1x23040 ![1] bcast_S23040_S1x23040_1 (Host.shrsi (res_main_v80 V0) (broadcastInDim S23040 ![] bcast_S_S23040 (constantI S_ 32 1#32))))) (extui 32 (cmpi .slt (res_main_v76 V0) (broadcastInDim S128x23040 ![] bcast_S_S128x23040 (constantI S_ 32 0#32))) natLt_1_32))) natLt_1_32)) (broadcastInDim S128x23040 ![] bcast_S_S128x23040 (V0 (Proc.devRef .tc main_arg6)))))) natLt_8_32) shapeCasts_S128x23040_S1x128x23040

/-- The reference's result, entry by entry: the requantised accumulator. -/
theorem tail_apply (V0 : Valuation τ sig (Elt Ideal)) (r : Fin 128) (n : Fin 23040) :
    tail V0 (ix3 0 r n)
      = Requant.refOut ((res_main_v28 V0 : IVec S128x23040 32) (ix2 r n)) (V0 (Proc.devRef .tc main_arg4) (ix1 n))
        (V0 (Proc.devRef .tc main_arg5) (ix1 n)) (V0 (Proc.devRef .tc main_arg6) ix0) := by
  unfold Requant.refOut
  dsimp only
  rw [← product_apply, ← v80_apply]
  unfold tail
  generalize res_main_v76 V0 = a
  generalize res_main_v80 V0 = b
  generalize V0 (Proc.devRef .tc main_arg5) = e
  generalize V0 (Proc.devRef .tc main_arg6) = y
  simp only [id_eq]
  clean_types
  pointwise

variable (m : (ℓ : Loc nD τ sig) → Buf (Elt Ideal) ℓ)

/-- A nibble is at most 8 in magnitude. -/
theorem natAbs_le (b : BitVec 8) (h : -8 ≤ b.toInt ∧ b.toInt ≤ 7) : b.toInt.natAbs ≤ 8 := by omega

/-- A product, at row `r` and column `n`. -/
theorem product_at (a : S128x1440.Idx → BitVec 8) (b : S1440x23040.Idx → BitVec 8) (r : Fin 128) (n : Fin 23040) :
    product a b (ix2 r n) = BitVec.ofInt 32 (∑ p : Fin 1440, (a (ix2 r p)).toInt * (b (ix2 p n)).toInt) := rfl

/-- The product of the even columns of activations with the low nibbles, entry by entry. -/
theorem even_product (x : IVec S1x128x2880 8) (w : IVec S1440x23040 8) (r : Fin 128) (n : Fin 23040) :
    product (Host.slice S128x1440 ![0, 0] ![1, 2] (shapeCast S128x2880 x shapeCasts_S1x128x2880_S128x2880)
      slicesBy_S128x2880_S128x1440_0s1_0s2) (lows w) (ix2 r n)
      = BitVec.ofInt 32 (∑ p : Fin 1440, (x (ix3 0 r ⟨2 * p.val, by omega⟩)).toInt * ((low (w (ix2 p n))).setWidth 8).toInt) := by
  rw [product_at]
  refine congrArg (BitVec.ofInt 32) (Finset.sum_congr rfl fun p _ => ?_)
  rw [evens_apply]
  unfold lows
  rfl

/-- The first product, entry by entry, from the arguments. -/
theorem even_apply (c : Dev nD) (r : Fin 128) (n : Fin 23040) :
    (exitV m c (Proc.devRef .tc main_v14_0) : IVec S128x23040 32) (ix2 r n)
      = BitVec.ofInt 32 (∑ p : Fin 1440, (m ((c.tc : Thread nD τ).loc main_arg0) (ix3 0 r ⟨2 * p.val, by omega⟩) : BitVec 8).toInt
        * ((low (m ((c.tc : Thread nD τ).loc main_arg2) (ix2 p n))).setWidth 8).toInt) := by
  rw [exit_main_v14_0, final_4, V_v5, V_v12, lows_eq, pay1_eq _ (lows _) fun i => natAbs_le _ (low_toInt _).2]
  exact even_product _ _ r n

/-- The product of the odd columns of activations with the high nibbles, entry by entry. -/
theorem odd_product (x : IVec S1x128x2880 8) (w : IVec S1440x23040 8) (r : Fin 128) (n : Fin 23040) :
    product (Host.slice S128x1440 ![0, 1] ![1, 2] (shapeCast S128x2880 x shapeCasts_S1x128x2880_S128x2880)
      slicesBy_S128x2880_S128x1440_0s1_1s2) (highs w) (ix2 r n)
      = BitVec.ofInt 32 (∑ p : Fin 1440, (x (ix3 0 r ⟨2 * p.val + 1, by omega⟩)).toInt * ((high (w (ix2 p n))).setWidth 8).toInt) := by
  rw [product_at]
  refine congrArg (BitVec.ofInt 32) (Finset.sum_congr rfl fun p _ => ?_)
  rw [odds_apply]
  unfold highs
  rfl

/-- The second product, entry by entry, from the arguments. -/
theorem odd_apply (c : Dev nD) (r : Fin 128) (n : Fin 23040) :
    (exitV m c (Proc.devRef .tc main_v14_1) : IVec S128x23040 32) (ix2 r n)
      = BitVec.ofInt 32 (∑ p : Fin 1440, (m ((c.tc : Thread nD τ).loc main_arg0) (ix3 0 r ⟨2 * p.val + 1, by omega⟩) : BitVec 8).toInt
        * ((high (m ((c.tc : Thread nD τ).loc main_arg2) (ix2 p n))).setWidth 8).toInt) := by
  rw [exit_main_v14_1, final_5, V_v10, V_v13, highs_eq, pay2_eq _ (highs _) fun i => natAbs_le _ (high_toInt _).2]
  exact odd_product _ _ r n

/-- The reference's result, entry by entry, from the arguments. -/
theorem result_apply (c : Dev nD) (r : Fin 128) (n : Fin 23040) :
    tail (exitV m c) (ix3 0 r n) = Requant.refOut
      (IntOp.addi
        (BitVec.ofInt 32 (dot (fun k => m ((c.tc : Thread nD τ).loc main_arg0) (ix3 0 r k))
          (m ((c.tc : Thread nD τ).loc main_arg1) ix0) fun p => m ((c.tc : Thread nD τ).loc main_arg2) (ix2 p n)))
        (m ((c.tc : Thread nD τ).loc main_arg3) (ix1 n)))
      (m ((c.tc : Thread nD τ).loc main_arg4) (ix1 n)) (m ((c.tc : Thread nD τ).loc main_arg5) (ix1 n))
      (m ((c.tc : Thread nD τ).loc main_arg6) ix0) := by
  rw [tail_apply, acc_apply, even_apply, odd_apply, exit_main_v5, exit_main_v10, exit_main_arg1, exit_main_arg3,
    exit_main_arg4, exit_main_arg5, exit_main_arg6, lows_eq, highs_eq, ← acc_eq]
  rfl

end Cert.ReferenceIdeal.Products
-- ==== Proof.Equation.lean ====
module

public import proofs.«01_k».proof.Defs
public import proofs.«01_k».proof.Proof.KernelResult
public import proofs.«01_k».proof.Proof.RefValue
public import proofs.«01_k».proof.Proof.Gen.Pre_quantised
public import Idealize.ShloMosaic.Lib.Affine

@[expose] public section

set_option maxRecDepth 16384

noncomputable section

open Idealize.ShloMosaic Idealize.ShloMosaic.TcCoe Idealize.SL.Sem

/-! # The two programs leave the same array -/

namespace Cert.Equation

/-- The precondition, read: the input zero point, the multipliers, the shifts and the output zero point lie in their
    ranges. -/
theorem ranges (x0 : IVec Pre_quantised.S1x128x2880 8) (x1 : IVec Pre_quantised.S_ 32) (x2 : IVec Pre_quantised.S1440x23040 8)
    (x3 x4 x5 : IVec Pre_quantised.S23040 32) (x6 : IVec Pre_quantised.S_ 32)
    (h : (Pre_quantised.fn (F := Ideal) x0 x1 x2 x3 x4 x5 x6).1 = (fun _ => 1#1)
      ∧ (Pre_quantised.fn (F := Ideal) x0 x1 x2 x3 x4 x5 x6).2.1 = (fun _ => 1#1)
      ∧ (Pre_quantised.fn (F := Ideal) x0 x1 x2 x3 x4 x5 x6).2.2.1 = (fun _ => 1#1)
      ∧ (Pre_quantised.fn (F := Ideal) x0 x1 x2 x3 x4 x5 x6).2.2.2 = (fun _ => 1#1)) :
    (-93079 ≤ (x1 ix0).toInt ∧ (x1 ix0).toInt ≤ 93078) ∧ (∀ n, 0 ≤ (x4 (ix1 n)).toInt)
      ∧ (∀ n, 1 ≤ (x5 (ix1 n)).toInt ∧ (x5 (ix1 n)).toInt ≤ 31)
      ∧ -1073741696 ≤ (x6 ix0).toInt ∧ (x6 ix0).toInt ≤ 1073741695 := by
  simp only [Pre_quantised.fn] at h
  obtain ⟨h1, h2, h3, h4⟩ := h
  refine ⟨?_, fun n => ?_, fun n => ?_, ?_⟩
  · have hi := congrFun h1 ix0
    simp only [andi, cmpi, constantI] at hi
    rw [IntOp.andi_eq_one, IntOp.cmpi_sge, IntOp.cmpi_sle] at hi
    exact hi
  · have hi := congrFun h2 (ix1 n)
    simp only [cmpi, broadcastInDim, constantI] at hi
    rw [IntOp.cmpi_sge] at hi
    exact hi
  · have hi := congrFun h3 (ix1 n)
    simp only [andi, cmpi, broadcastInDim, constantI] at hi
    rw [IntOp.andi_eq_one, IntOp.cmpi_sge, IntOp.cmpi_sle] at hi
    exact hi
  · have hi := congrFun h4 ix0
    simp only [andi, cmpi, constantI] at hi
    rw [IntOp.andi_eq_one, IntOp.cmpi_sge, IntOp.cmpi_sle] at hi
    exact hi

/-- A reshaped array of 128 rows, at row `r` and column `n`. -/
theorem reshaped (v : IVec KernelIdeal.S128x23040 8) (r : Fin 128) (n : Fin 23040) :
    shapeCast KernelIdeal.S1x128x23040 v KernelIdeal.Facts₀.shapeCasts_S128x23040_S1x128x23040 (ix3 0 r n) = v (ix2 r n) := by
  pointwise

/-- From equal arguments in the ranges, the kernel's result is the reference's. -/
theorem result_eq
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) (hpre : Pre_KernelIdeal_quantised m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Products.tail (ReferenceIdeal.Value.exitV m' c)
      = shapeCast KernelIdeal.S1x128x23040 (KernelIdeal.Value.reg_main_v6 m c)
        KernelIdeal.Facts₀.shapeCasts_S128x23040_S1x128x23040 := by
  obtain ⟨⟨z1, z2⟩, hm, he, y1, y2⟩ := ranges _ _ _ _ _ _ _ (hpre c)
  funext i
  obtain ⟨r, n, rfl⟩ : ∃ (r : Fin 128) (n : Fin 23040), i = ix3 0 r n :=
    ⟨i 1, i 2, funext fun a => match a with
      | ⟨0, _⟩ => Subsingleton.elim (α := Fin 1) _ _
      | ⟨1, _⟩ => rfl
      | ⟨2, _⟩ => rfl⟩
  rw [KernelIdeal.Block.final, reshaped, KernelIdeal.Block.result_apply m c r n z1 z2,
    Requant.kernelOut_eq _ _ _ _ (hm n) (he n).1 (he n).2 y1 y2, ReferenceIdeal.Products.result_apply]
  rw [h0, h1, h2, h3, h4, h5, h6]

end Cert.Equation
-- ==== Proof.lean ====
module

public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.Pre_quantised

@[expose] public section

noncomputable section

/-! # The claims, assembled -/

namespace Cert.Proof

open Idealize.ShloMosaic Idealize.SL.Sem

/-- The kernel runs and leaves its arguments. -/
theorem frame_kernel : Cert.quiescent_Kernel := fun m ρ _ => Cert.Kernel.Gen.frame m ρ
/-- The kernel at the ideal level runs and leaves its arguments. -/
theorem frame_ideal : Cert.quiescent_KernelIdeal := fun m ρ _ => Cert.KernelIdeal.Gen.frame m ρ
/-- The same, from arguments in the ranges. -/
theorem frame_ideal_pre : Cert.quiescent_KernelIdeal_pre_quantised := fun m ρ _ => Cert.KernelIdeal.Gen.frame m ρ
/-- The reference at the ideal level runs and leaves its arguments. -/
theorem frame_reference : Cert.quiescent_ReferenceIdeal := fun m ρ _ => Cert.ReferenceIdeal.Gen.frame m ρ
/-- The same, from arguments in the ranges. -/
theorem frame_reference_pre : Cert.quiescent_ReferenceIdeal_pre_quantised :=
  fun m ρ _ => Cert.ReferenceIdeal.Gen.frame m ρ

/-- From equal arguments in the ranges, the kernel and the reference at the ideal level leave the same array. -/
theorem algebraic : Cert.algebraic_KernelIdeal_ReferenceIdeal_pre_quantised := fun m g m' g' hpre hargs =>
  ⟨fun c => shapeCast _ (Cert.KernelIdeal.Value.reg_main_v6 m c) Cert.KernelIdeal.Facts₀.shapeCasts_S128x23040_S1x128x23040,
    Cert.KernelIdeal.Value.run m g,
    (θ_run Cert.ReferenceIdeal.defs _ _).mono (fun _ h c => by
      obtain ⟨h0, h1, h2, h3, h4, h5, h6⟩ := hargs c
      exact ⟨(h c).1.trans (Cert.Equation.result_eq m m' c hpre h0 h1 h2 h3 h4 h5 h6), (h c).2⟩)
      (Cert.ReferenceIdeal.Value.run m' g')⟩

/-- Every claim. -/
theorem claim : Cert.Claim :=
  ⟨Cert.Kernel.Gen.facts, Cert.KernelIdeal.Gen.facts, Cert.ReferenceIdeal.Gen.facts, Cert.Pre_quantised.Gen.facts,
    frame_kernel, frame_ideal, frame_ideal_pre, frame_reference, frame_reference_pre, trivial, algebraic⟩

end Cert.Proof

end
